-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S8192x1024 : Shape := ⟨2, ![8192, 1024]⟩
abbrev S16384x1024 : Shape := ⟨2, ![16384, 1024]⟩
abbrev S16x1024 : Shape := ⟨2, ![16, 1024]⟩
abbrev S_ : Shape := ⟨0, ![]⟩
abbrev S1x16 : Shape := ⟨2, ![1, 16]⟩
abbrev S16 : Shape := ⟨1, ![16]⟩

abbrev nBuf : Table → Nat
  | .hbm => 5
  | .local .scVector .vmem => 7
  | _ => 0

abbrev bufTy : (tb : Table) → Fin (nBuf tb) → BufTy
  | .hbm, ⟨0, _⟩ => ⟨S4x4096x1024, .f32⟩
  | .hbm, ⟨1, _⟩ => ⟨S8192x1024, .f32⟩
  | .hbm, ⟨2, _⟩ => ⟨S16384x1024, .f32⟩
  | .hbm, ⟨3, _⟩ => ⟨S16384x1024, .f32⟩
  | .hbm, ⟨4, _⟩ => ⟨S4x4096x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | .local .scVector .vmem, ⟨6, _⟩ => ⟨S16x1024, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]
def k0_off2 (i : grid0.Coords) (c0_i32_2 : BitVec 32) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v6 : BitVec 32 := Scalar.addi c0_i32_2 v2
  let v7 : BitVec 32 := Scalar.addi v6 c0_i32_3
  let c0_i32_4 : BitVec 32 := 0#32
  ![v7.toNat, 0]
@[reducible] def k0_t1_loop : Scf.Loop 32 :=
  let c0_i32_21 : BitVec 32 := 0#32
  let c1024_i32 : BitVec 32 := 1024#32
  let v29 : BitVec 32 := Scalar.addi c0_i32_21 c1024_i32
  let c1_i32 : BitVec 32 := 1#32
  ⟨c0_i32_21, v29, c1_i32⟩
def k0_off3 (k0_t1 : Fin k0_t1_loop.trips) : Fin 2 → Nat :=
  let c0_i32_540 : BitVec 32 := 0#32
  let c0_i32_21 : BitVec 32 := 0#32
  let c1_i32 : BitVec 32 := 1#32
  let arg24 : BitVec 32 := Scf.iv c0_i32_21 c1_i32 k0_t1
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t2_loop : Scf.Loop 32 :=
  let c0_i32_33 : BitVec 32 := 0#32
  let c1024_i32_34 : BitVec 32 := 1024#32
  let v40 : BitVec 32 := Scalar.addi c0_i32_33 c1024_i32_34
  let c1_i32_35 : BitVec 32 := 1#32
  ⟨c0_i32_33, v40, c1_i32_35⟩
def k0_off4 (k0_t2 : Fin k0_t2_loop.trips) : Fin 2 → Nat :=
  let c0_i32_540 : BitVec 32 := 0#32
  let c0_i32_33 : BitVec 32 := 0#32
  let c1_i32_35 : BitVec 32 := 1#32
  let arg24 : BitVec 32 := Scf.iv c0_i32_33 c1_i32_35 k0_t2
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t3_loop : Scf.Loop 32 :=
  let c0_i32_49 : BitVec 32 := 0#32
  let c1024_i32_50 : BitVec 32 := 1024#32
  let v53 : BitVec 32 := Scalar.addi c0_i32_49 c1024_i32_50
  let c1_i32_51 : BitVec 32 := 1#32
  ⟨c0_i32_49, v53, c1_i32_51⟩
def k0_off5 (k0_t3 : Fin k0_t3_loop.trips) : Fin 2 → Nat :=
  let c0_i32_540 : BitVec 32 := 0#32
  let c0_i32_49 : BitVec 32 := 0#32
  let c1_i32_51 : BitVec 32 := 1#32
  let arg24 : BitVec 32 := Scf.iv c0_i32_49 c1_i32_51 k0_t3
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t4_loop : Scf.Loop 32 :=
  let c0_i32_65 : BitVec 32 := 0#32
  let c1024_i32_66 : BitVec 32 := 1024#32
  let v66 : BitVec 32 := Scalar.addi c0_i32_65 c1024_i32_66
  let c1_i32_67 : BitVec 32 := 1#32
  ⟨c0_i32_65, v66, c1_i32_67⟩
def k0_off6 (k0_t4 : Fin k0_t4_loop.trips) : Fin 2 → Nat :=
  let c0_i32_540 : BitVec 32 := 0#32
  let c0_i32_65 : BitVec 32 := 0#32
  let c1_i32_67 : BitVec 32 := 1#32
  let arg24 : BitVec 32 := Scf.iv c0_i32_65 c1_i32_67 k0_t4
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t5_loop : Scf.Loop 32 :=
  let c0_i32_85 : BitVec 32 := 0#32
  let c1024_i32_86 : BitVec 32 := 1024#32
  let v84 : BitVec 32 := Scalar.addi c0_i32_85 c1024_i32_86
  let c1_i32_87 : BitVec 32 := 1#32
  ⟨c0_i32_85, v84, c1_i32_87⟩
def k0_off7 (k0_t5 : Fin k0_t5_loop.trips) : Fin 2 → Nat :=
  let c0_i32_540 : BitVec 32 := 0#32
  let c0_i32_85 : BitVec 32 := 0#32
  let c1_i32_87 : BitVec 32 := 1#32
  let arg24 : BitVec 32 := Scf.iv c0_i32_85 c1_i32_87 k0_t5
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t6_loop : Scf.Loop 32 :=
  let c0_i32_101 : BitVec 32 := 0#32
  let c1024_i32_102 : BitVec 32 := 1024#32
  let v97 : BitVec 32 := Scalar.addi c0_i32_101 c1024_i32_102
  let c1_i32_103 : BitVec 32 := 1#32
  ⟨c0_i32_101, v97, c1_i32_103⟩
def k0_off8 (k0_t6 : Fin k0_t6_loop.trips) : Fin 2 → Nat :=
  let c0_i32_540 : BitVec 32 := 0#32
  let c0_i32_101 : BitVec 32 := 0#32
  let c1_i32_103 : BitVec 32 := 1#32
  let arg24 : BitVec 32 := Scf.iv c0_i32_101 c1_i32_103 k0_t6
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t7_loop : Scf.Loop 32 :=
  let c0_i32_117 : BitVec 32 := 0#32
  let c1024_i32_118 : BitVec 32 := 1024#32
  let v110 : BitVec 32 := Scalar.addi c0_i32_117 c1024_i32_118
  let c1_i32_119 : BitVec 32 := 1#32
  ⟨c0_i32_117, v110, c1_i32_119⟩
def k0_off9 (k0_t7 : Fin k0_t7_loop.trips) : Fin 2 → Nat :=
  let c0_i32_540 : BitVec 32 := 0#32
  let c0_i32_117 : BitVec 32 := 0#32
  let c1_i32_119 : BitVec 32 := 1#32
  let arg24 : BitVec 32 := Scf.iv c0_i32_117 c1_i32_119 k0_t7
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t8_loop : Scf.Loop 32 :=
  let c0_i32_133 : BitVec 32 := 0#32
  let c1024_i32_134 : BitVec 32 := 1024#32
  let v123 : BitVec 32 := Scalar.addi c0_i32_133 c1024_i32_134
  let c1_i32_135 : BitVec 32 := 1#32
  ⟨c0_i32_133, v123, c1_i32_135⟩
def k0_off10 (k0_t8 : Fin k0_t8_loop.trips) : Fin 2 → Nat :=
  let c0_i32_540 : BitVec 32 := 0#32
  let c0_i32_133 : BitVec 32 := 0#32
  let c1_i32_135 : BitVec 32 := 1#32
  let arg24 : BitVec 32 := Scf.iv c0_i32_133 c1_i32_135 k0_t8
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t9_loop : Scf.Loop 32 :=
  let c0_i32_153 : BitVec 32 := 0#32
  let c1024_i32_154 : BitVec 32 := 1024#32
  let v141 : BitVec 32 := Scalar.addi c0_i32_153 c1024_i32_154
  let c1_i32_155 : BitVec 32 := 1#32
  ⟨c0_i32_153, v141, c1_i32_155⟩
def k0_off11 (k0_t9 : Fin k0_t9_loop.trips) : Fin 2 → Nat :=
  let c0_i32_540 : BitVec 32 := 0#32
  let c0_i32_153 : BitVec 32 := 0#32
  let c1_i32_155 : BitVec 32 := 1#32
  let arg24 : BitVec 32 := Scf.iv c0_i32_153 c1_i32_155 k0_t9
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t10_loop : Scf.Loop 32 :=
  let c0_i32_169 : BitVec 32 := 0#32
  let c1024_i32_170 : BitVec 32 := 1024#32
  let v154 : BitVec 32 := Scalar.addi c0_i32_169 c1024_i32_170
  let c1_i32_171 : BitVec 32 := 1#32
  ⟨c0_i32_169, v154, c1_i32_171⟩
def k0_off12 (k0_t10 : Fin k0_t10_loop.trips) : Fin 2 → Nat :=
  let c0_i32_540 : BitVec 32 := 0#32
  let c0_i32_169 : BitVec 32 := 0#32
  let c1_i32_171 : BitVec 32 := 1#32
  let arg24 : BitVec 32 := Scf.iv c0_i32_169 c1_i32_171 k0_t10
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t11_loop : Scf.Loop 32 :=
  let c0_i32_185 : BitVec 32 := 0#32
  let c1024_i32_186 : BitVec 32 := 1024#32
  let v167 : BitVec 32 := Scalar.addi c0_i32_185 c1024_i32_186
  let c1_i32_187 : BitVec 32 := 1#32
  ⟨c0_i32_185, v167, c1_i32_187⟩
def k0_off13 (k0_t11 : Fin k0_t11_loop.trips) : Fin 2 → Nat :=
  let c0_i32_540 : BitVec 32 := 0#32
  let c0_i32_185 : BitVec 32 := 0#32
  let c1_i32_187 : BitVec 32 := 1#32
  let arg24 : BitVec 32 := Scf.iv c0_i32_185 c1_i32_187 k0_t11
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t12_loop : Scf.Loop 32 :=
  let c0_i32_201 : BitVec 32 := 0#32
  let c1024_i32_202 : BitVec 32 := 1024#32
  let v180 : BitVec 32 := Scalar.addi c0_i32_201 c1024_i32_202
  let c1_i32_203 : BitVec 32 := 1#32
  ⟨c0_i32_201, v180, c1_i32_203⟩
def k0_off14 (k0_t12 : Fin k0_t12_loop.trips) : Fin 2 → Nat :=
  let c0_i32_540 : BitVec 32 := 0#32
  let c0_i32_201 : BitVec 32 := 0#32
  let c1_i32_203 : BitVec 32 := 1#32
  let arg24 : BitVec 32 := Scf.iv c0_i32_201 c1_i32_203 k0_t12
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t13_loop : Scf.Loop 32 :=
  let c0_i32_221 : BitVec 32 := 0#32
  let c1024_i32_222 : BitVec 32 := 1024#32
  let v198 : BitVec 32 := Scalar.addi c0_i32_221 c1024_i32_222
  let c1_i32_223 : BitVec 32 := 1#32
  ⟨c0_i32_221, v198, c1_i32_223⟩
def k0_off15 (k0_t13 : Fin k0_t13_loop.trips) : Fin 2 → Nat :=
  let c0_i32_540 : BitVec 32 := 0#32
  let c0_i32_221 : BitVec 32 := 0#32
  let c1_i32_223 : BitVec 32 := 1#32
  let arg24 : BitVec 32 := Scf.iv c0_i32_221 c1_i32_223 k0_t13
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t14_loop : Scf.Loop 32 :=
  let c0_i32_237 : BitVec 32 := 0#32
  let c1024_i32_238 : BitVec 32 := 1024#32
  let v211 : BitVec 32 := Scalar.addi c0_i32_237 c1024_i32_238
  let c1_i32_239 : BitVec 32 := 1#32
  ⟨c0_i32_237, v211, c1_i32_239⟩
def k0_off16 (k0_t14 : Fin k0_t14_loop.trips) : Fin 2 → Nat :=
  let c0_i32_540 : BitVec 32 := 0#32
  let c0_i32_237 : BitVec 32 := 0#32
  let c1_i32_239 : BitVec 32 := 1#32
  let arg24 : BitVec 32 := Scf.iv c0_i32_237 c1_i32_239 k0_t14
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t15_loop : Scf.Loop 32 :=
  let c0_i32_253 : BitVec 32 := 0#32
  let c1024_i32_254 : BitVec 32 := 1024#32
  let v224 : BitVec 32 := Scalar.addi c0_i32_253 c1024_i32_254
  let c1_i32_255 : BitVec 32 := 1#32
  ⟨c0_i32_253, v224, c1_i32_255⟩
def k0_off17 (k0_t15 : Fin k0_t15_loop.trips) : Fin 2 → Nat :=
  let c0_i32_540 : BitVec 32 := 0#32
  let c0_i32_253 : BitVec 32 := 0#32
  let c1_i32_255 : BitVec 32 := 1#32
  let arg24 : BitVec 32 := Scf.iv c0_i32_253 c1_i32_255 k0_t15
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t16_loop : Scf.Loop 32 :=
  let c0_i32_269 : BitVec 32 := 0#32
  let c1024_i32_270 : BitVec 32 := 1024#32
  let v237 : BitVec 32 := Scalar.addi c0_i32_269 c1024_i32_270
  let c1_i32_271 : BitVec 32 := 1#32
  ⟨c0_i32_269, v237, c1_i32_271⟩
def k0_off18 (k0_t16 : Fin k0_t16_loop.trips) : Fin 2 → Nat :=
  let c0_i32_540 : BitVec 32 := 0#32
  let c0_i32_269 : BitVec 32 := 0#32
  let c1_i32_271 : BitVec 32 := 1#32
  let arg24 : BitVec 32 := Scf.iv c0_i32_269 c1_i32_271 k0_t16
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t17_loop : Scf.Loop 32 :=
  let c0_i32_289 : BitVec 32 := 0#32
  let c1024_i32_290 : BitVec 32 := 1024#32
  let v255 : BitVec 32 := Scalar.addi c0_i32_289 c1024_i32_290
  let c1_i32_291 : BitVec 32 := 1#32
  ⟨c0_i32_289, v255, c1_i32_291⟩
def k0_off19 (k0_t17 : Fin k0_t17_loop.trips) : Fin 2 → Nat :=
  let c0_i32_540 : BitVec 32 := 0#32
  let c0_i32_289 : BitVec 32 := 0#32
  let c1_i32_291 : BitVec 32 := 1#32
  let arg24 : BitVec 32 := Scf.iv c0_i32_289 c1_i32_291 k0_t17
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t18_loop : Scf.Loop 32 :=
  let c0_i32_305 : BitVec 32 := 0#32
  let c1024_i32_306 : BitVec 32 := 1024#32
  let v268 : BitVec 32 := Scalar.addi c0_i32_305 c1024_i32_306
  let c1_i32_307 : BitVec 32 := 1#32
  ⟨c0_i32_305, v268, c1_i32_307⟩
def k0_off20 (k0_t18 : Fin k0_t18_loop.trips) : Fin 2 → Nat :=
  let c0_i32_540 : BitVec 32 := 0#32
  let c0_i32_305 : BitVec 32 := 0#32
  let c1_i32_307 : BitVec 32 := 1#32
  let arg24 : BitVec 32 := Scf.iv c0_i32_305 c1_i32_307 k0_t18
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t19_loop : Scf.Loop 32 :=
  let c0_i32_321 : BitVec 32 := 0#32
  let c1024_i32_322 : BitVec 32 := 1024#32
  let v281 : BitVec 32 := Scalar.addi c0_i32_321 c1024_i32_322
  let c1_i32_323 : BitVec 32 := 1#32
  ⟨c0_i32_321, v281, c1_i32_323⟩
def k0_off21 (k0_t19 : Fin k0_t19_loop.trips) : Fin 2 → Nat :=
  let c0_i32_540 : BitVec 32 := 0#32
  let c0_i32_321 : BitVec 32 := 0#32
  let c1_i32_323 : BitVec 32 := 1#32
  let arg24 : BitVec 32 := Scf.iv c0_i32_321 c1_i32_323 k0_t19
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t20_loop : Scf.Loop 32 :=
  let c0_i32_337 : BitVec 32 := 0#32
  let c1024_i32_338 : BitVec 32 := 1024#32
  let v294 : BitVec 32 := Scalar.addi c0_i32_337 c1024_i32_338
  let c1_i32_339 : BitVec 32 := 1#32
  ⟨c0_i32_337, v294, c1_i32_339⟩
def k0_off22 (k0_t20 : Fin k0_t20_loop.trips) : Fin 2 → Nat :=
  let c0_i32_540 : BitVec 32 := 0#32
  let c0_i32_337 : BitVec 32 := 0#32
  let c1_i32_339 : BitVec 32 := 1#32
  let arg24 : BitVec 32 := Scf.iv c0_i32_337 c1_i32_339 k0_t20
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t21_loop : Scf.Loop 32 :=
  let c0_i32_357 : BitVec 32 := 0#32
  let c1024_i32_358 : BitVec 32 := 1024#32
  let v312 : BitVec 32 := Scalar.addi c0_i32_357 c1024_i32_358
  let c1_i32_359 : BitVec 32 := 1#32
  ⟨c0_i32_357, v312, c1_i32_359⟩
def k0_off23 (k0_t21 : Fin k0_t21_loop.trips) : Fin 2 → Nat :=
  let c0_i32_540 : BitVec 32 := 0#32
  let c0_i32_357 : BitVec 32 := 0#32
  let c1_i32_359 : BitVec 32 := 1#32
  let arg24 : BitVec 32 := Scf.iv c0_i32_357 c1_i32_359 k0_t21
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t22_loop : Scf.Loop 32 :=
  let c0_i32_373 : BitVec 32 := 0#32
  let c1024_i32_374 : BitVec 32 := 1024#32
  let v325 : BitVec 32 := Scalar.addi c0_i32_373 c1024_i32_374
  let c1_i32_375 : BitVec 32 := 1#32
  ⟨c0_i32_373, v325, c1_i32_375⟩
def k0_off24 (k0_t22 : Fin k0_t22_loop.trips) : Fin 2 → Nat :=
  let c0_i32_540 : BitVec 32 := 0#32
  let c0_i32_373 : BitVec 32 := 0#32
  let c1_i32_375 : BitVec 32 := 1#32
  let arg24 : BitVec 32 := Scf.iv c0_i32_373 c1_i32_375 k0_t22
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t23_loop : Scf.Loop 32 :=
  let c0_i32_389 : BitVec 32 := 0#32
  let c1024_i32_390 : BitVec 32 := 1024#32
  let v338 : BitVec 32 := Scalar.addi c0_i32_389 c1024_i32_390
  let c1_i32_391 : BitVec 32 := 1#32
  ⟨c0_i32_389, v338, c1_i32_391⟩
def k0_off25 (k0_t23 : Fin k0_t23_loop.trips) : Fin 2 → Nat :=
  let c0_i32_540 : BitVec 32 := 0#32
  let c0_i32_389 : BitVec 32 := 0#32
  let c1_i32_391 : BitVec 32 := 1#32
  let arg24 : BitVec 32 := Scf.iv c0_i32_389 c1_i32_391 k0_t23
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t24_loop : Scf.Loop 32 :=
  let c0_i32_405 : BitVec 32 := 0#32
  let c1024_i32_406 : BitVec 32 := 1024#32
  let v351 : BitVec 32 := Scalar.addi c0_i32_405 c1024_i32_406
  let c1_i32_407 : BitVec 32 := 1#32
  ⟨c0_i32_405, v351, c1_i32_407⟩
def k0_off26 (k0_t24 : Fin k0_t24_loop.trips) : Fin 2 → Nat :=
  let c0_i32_540 : BitVec 32 := 0#32
  let c0_i32_405 : BitVec 32 := 0#32
  let c1_i32_407 : BitVec 32 := 1#32
  let arg24 : BitVec 32 := Scf.iv c0_i32_405 c1_i32_407 k0_t24
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t25_loop : Scf.Loop 32 :=
  let c0_i32_425 : BitVec 32 := 0#32
  let c1024_i32_426 : BitVec 32 := 1024#32
  let v369 : BitVec 32 := Scalar.addi c0_i32_425 c1024_i32_426
  let c1_i32_427 : BitVec 32 := 1#32
  ⟨c0_i32_425, v369, c1_i32_427⟩
def k0_off27 (k0_t25 : Fin k0_t25_loop.trips) : Fin 2 → Nat :=
  let c0_i32_540 : BitVec 32 := 0#32
  let c0_i32_425 : BitVec 32 := 0#32
  let c1_i32_427 : BitVec 32 := 1#32
  let arg24 : BitVec 32 := Scf.iv c0_i32_425 c1_i32_427 k0_t25
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t26_loop : Scf.Loop 32 :=
  let c0_i32_441 : BitVec 32 := 0#32
  let c1024_i32_442 : BitVec 32 := 1024#32
  let v382 : BitVec 32 := Scalar.addi c0_i32_441 c1024_i32_442
  let c1_i32_443 : BitVec 32 := 1#32
  ⟨c0_i32_441, v382, c1_i32_443⟩
def k0_off28 (k0_t26 : Fin k0_t26_loop.trips) : Fin 2 → Nat :=
  let c0_i32_540 : BitVec 32 := 0#32
  let c0_i32_441 : BitVec 32 := 0#32
  let c1_i32_443 : BitVec 32 := 1#32
  let arg24 : BitVec 32 := Scf.iv c0_i32_441 c1_i32_443 k0_t26
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t27_loop : Scf.Loop 32 :=
  let c0_i32_457 : BitVec 32 := 0#32
  let c1024_i32_458 : BitVec 32 := 1024#32
  let v395 : BitVec 32 := Scalar.addi c0_i32_457 c1024_i32_458
  let c1_i32_459 : BitVec 32 := 1#32
  ⟨c0_i32_457, v395, c1_i32_459⟩
def k0_off29 (k0_t27 : Fin k0_t27_loop.trips) : Fin 2 → Nat :=
  let c0_i32_540 : BitVec 32 := 0#32
  let c0_i32_457 : BitVec 32 := 0#32
  let c1_i32_459 : BitVec 32 := 1#32
  let arg24 : BitVec 32 := Scf.iv c0_i32_457 c1_i32_459 k0_t27
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t28_loop : Scf.Loop 32 :=
  let c0_i32_473 : BitVec 32 := 0#32
  let c1024_i32_474 : BitVec 32 := 1024#32
  let v408 : BitVec 32 := Scalar.addi c0_i32_473 c1024_i32_474
  let c1_i32_475 : BitVec 32 := 1#32
  ⟨c0_i32_473, v408, c1_i32_475⟩
def k0_off30 (k0_t28 : Fin k0_t28_loop.trips) : Fin 2 → Nat :=
  let c0_i32_540 : BitVec 32 := 0#32
  let c0_i32_473 : BitVec 32 := 0#32
  let c1_i32_475 : BitVec 32 := 1#32
  let arg24 : BitVec 32 := Scf.iv c0_i32_473 c1_i32_475 k0_t28
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t29_loop : Scf.Loop 32 :=
  let c0_i32_491 : BitVec 32 := 0#32
  let c1024_i32_492 : BitVec 32 := 1024#32
  let v423 : BitVec 32 := Scalar.addi c0_i32_491 c1024_i32_492
  let c1_i32_493 : BitVec 32 := 1#32
  ⟨c0_i32_491, v423, c1_i32_493⟩
def k0_off31 (k0_t29 : Fin k0_t29_loop.trips) : Fin 2 → Nat :=
  let c0_i32_540 : BitVec 32 := 0#32
  let c0_i32_491 : BitVec 32 := 0#32
  let c1_i32_493 : BitVec 32 := 1#32
  let arg24 : BitVec 32 := Scf.iv c0_i32_491 c1_i32_493 k0_t29
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t30_loop : Scf.Loop 32 :=
  let c0_i32_501 : BitVec 32 := 0#32
  let c1024_i32_502 : BitVec 32 := 1024#32
  let v430 : BitVec 32 := Scalar.addi c0_i32_501 c1024_i32_502
  let c1_i32_503 : BitVec 32 := 1#32
  ⟨c0_i32_501, v430, c1_i32_503⟩
def k0_off32 (k0_t30 : Fin k0_t30_loop.trips) : Fin 2 → Nat :=
  let c0_i32_540 : BitVec 32 := 0#32
  let c0_i32_501 : BitVec 32 := 0#32
  let c1_i32_503 : BitVec 32 := 1#32
  let arg24 : BitVec 32 := Scf.iv c0_i32_501 c1_i32_503 k0_t30
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t31_loop : Scf.Loop 32 :=
  let c0_i32_511 : BitVec 32 := 0#32
  let c1024_i32_512 : BitVec 32 := 1024#32
  let v437 : BitVec 32 := Scalar.addi c0_i32_511 c1024_i32_512
  let c1_i32_513 : BitVec 32 := 1#32
  ⟨c0_i32_511, v437, c1_i32_513⟩
def k0_off33 (k0_t31 : Fin k0_t31_loop.trips) : Fin 2 → Nat :=
  let c0_i32_540 : BitVec 32 := 0#32
  let c0_i32_511 : BitVec 32 := 0#32
  let c1_i32_513 : BitVec 32 := 1#32
  let arg24 : BitVec 32 := Scf.iv c0_i32_511 c1_i32_513 k0_t31
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
@[reducible] def k0_t32_loop : Scf.Loop 32 :=
  let c0_i32_521 : BitVec 32 := 0#32
  let c1024_i32_522 : BitVec 32 := 1024#32
  let v444 : BitVec 32 := Scalar.addi c0_i32_521 c1024_i32_522
  let c1_i32_523 : BitVec 32 := 1#32
  ⟨c0_i32_521, v444, c1_i32_523⟩
def k0_off34 (k0_t32 : Fin k0_t32_loop.trips) : Fin 2 → Nat :=
  let c0_i32_540 : BitVec 32 := 0#32
  let c0_i32_521 : BitVec 32 := 0#32
  let c1_i32_523 : BitVec 32 := 1#32
  let arg24 : BitVec 32 := Scf.iv c0_i32_521 c1_i32_523 k0_t32
  let c16_i32_539 : BitVec 32 := 16#32
  let v459 : BitVec 32 := Scalar.muli arg24 c16_i32_539
  let v460 : BitVec 32 := Scalar.addi c0_i32_540 v459
  let c0_i32_542 : BitVec 32 := 0#32
  let v462 : BitVec 1 := Scalar.cmpi .sgt v460 c0_i32_542
  let v463 : BitVec 32 := Scalar.extui v462
  let c0_i32_543 : BitVec 32 := 0#32
  let v464 : BitVec 1 := Scalar.cmpi .slt v460 c0_i32_543
  let v465 : BitVec 32 := Scalar.extui v464
  let v466 : BitVec 32 := Scalar.subi v463 v465
  let c1024_i32_541 : BitVec 32 := 1024#32
  let c0_i32_544 : BitVec 32 := 0#32
  let v467 : BitVec 1 := Scalar.cmpi .sgt c1024_i32_541 c0_i32_544
  let v468 : BitVec 32 := Scalar.extui v467
  let c0_i32_545 : BitVec 32 := 0#32
  let v469 : BitVec 1 := Scalar.cmpi .slt c1024_i32_541 c0_i32_545
  let v470 : BitVec 32 := Scalar.extui v469
  let v471 : BitVec 32 := Scalar.subi v468 v470
  let v472 : BitVec 1 := Scalar.cmpi .ne v466 v471
  let v473 : BitVec 32 := Scalar.remsi v460 c1024_i32_541
  let c0_i32_546 : BitVec 32 := 0#32
  let v474 : BitVec 1 := Scalar.cmpi .ne v473 c0_i32_546
  let v475 : BitVec 1 := Scalar.andi v472 v474
  let v461 : BitVec 32 := Scalar.divsi v460 c1024_i32_541
  let c1_i32_547 : BitVec 32 := 1#32
  let v476 : BitVec 32 := Scalar.subi v461 c1_i32_547
  let v477 : BitVec 32 := Scalar.select v475 v476 v461
  let v488 : Index := Scalar.indexCast v477
  let c1024_i32_548 : BitVec 32 := 1024#32
  let c0_i32_549 : BitVec 32 := 0#32
  let v478 : BitVec 1 := Scalar.cmpi .eq c1024_i32_548 c0_i32_549
  let c1_i32_550 : BitVec 32 := 1#32
  let v479 : BitVec 32 := Scalar.select v478 c1_i32_550 c1024_i32_548
  let v480 : BitVec 32 := Scalar.remsi v460 v479
  let c0_i32_552 : BitVec 32 := 0#32
  let v482 : BitVec 1 := Scalar.cmpi .slt v480 c0_i32_552
  let c0_i32_553 : BitVec 32 := 0#32
  let v483 : BitVec 1 := Scalar.cmpi .slt v479 c0_i32_553
  let v484 : BitVec 1 := Scalar.xori v482 v483
  let c0_i32_551 : BitVec 32 := 0#32
  let v481 : BitVec 1 := Scalar.cmpi .ne v480 c0_i32_551
  let v485 : BitVec 1 := Scalar.andi v484 v481
  let v486 : BitVec 32 := Scalar.addi v480 v479
  let v487 : BitVec 32 := Scalar.select v485 v486 v480
  let v489 : Index := Scalar.indexCast v487
  ![v488.toNat, v489.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x1024 : Shape := ⟨3, ![4, 4096, 1024]⟩
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Reference.lean ====
/-
  The reference: its run ends with every semaphore counter at zero, and its result at batch b, row s, column x is the
  token there plus row s, column x of the table. Row numbers below 4096 are neither negative nor past the table's last
  row, so the reference's wrap of negative rows, its clamp and its check for rows outside the table change nothing.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.Ref

open Cert.ReferenceIdeal Cert.ReferenceIdeal.Gen
open Idealize.ShloMosaic Idealize.SL.Sem

variable {F : FTy → Type} [FloatOps F]

/-! ## The rows looked up -/

/-- The row the reference looks up for each position: the position, wrapped when negative. -/
def startRow : IVec S4096x1 32 :=
  broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 8192#32))) (iotaInDim S4096 32 0))

/-- Whether that row is one of the table's. -/
def inTable : IVec S4096 1 :=
  Host.reduce IntOp.andi (andi (cmpi .sge startRow (broadcastInDim S4096x1 ![] bcast_S_S4096x1 (constantI S_ 32 0#32))) (cmpi .sle startRow (broadcastInDim S4096x1 ![0, 1] bcast_S1x1_S4096x1_0_1 (broadcastInDim S1x1 ![1] bcast_S1_S1x1_1 (constantI S1 32 8191#32))))) (constantI S_ 1 1#1) reducesTo_S4096x1_S4096_d1 h_S_

theorem word_toInt {n : ℕ} (h : n < 4096) : (BitVec.ofNat 32 n).toInt = n := by
  rw [BitVec.toInt_eq_toNat_cond, BitVec.toNat_ofNat]
  rw [Nat.mod_eq_of_lt (by omega)]
  rw [if_pos (by omega)]

theorem word_slt {n : ℕ} (h : n < 4096) : IntOp.cmpi .slt (BitVec.ofNat 32 n) 0#32 = 0#1 := by
  show BitVec.ofBool (decide ((BitVec.ofNat 32 n).toInt < (0#32 : BitVec 32).toInt)) = 0#1
  rw [word_toInt h, show (0#32 : BitVec 32).toInt = 0 by decide, decide_eq_false (by omega)]
  rfl

theorem word_sge {n : ℕ} (h : n < 4096) : IntOp.cmpi .sge (BitVec.ofNat 32 n) 0#32 = 1#1 := by
  show BitVec.ofBool (decide ((0#32 : BitVec 32).toInt ≤ (BitVec.ofNat 32 n).toInt)) = 1#1
  rw [word_toInt h, show (0#32 : BitVec 32).toInt = 0 by decide, decide_eq_true (by omega)]
  rfl

theorem word_sle {n : ℕ} (h : n < 4096) : IntOp.cmpi .sle (BitVec.ofNat 32 n) 8191#32 = 1#1 := by
  show BitVec.ofBool (decide ((BitVec.ofNat 32 n).toInt ≤ (8191#32 : BitVec 32).toInt)) = 1#1
  rw [word_toInt h, show (8191#32 : BitVec 32).toInt = 8191 by decide, decide_eq_true (by omega)]
  rfl

theorem startRow_at (k : S4096x1.Idx) : startRow k = BitVec.ofNat 32 (k 0).val := by
  have hk : (k 0).val < 4096 := (k 0).isLt
  show Scalar.select (IntOp.cmpi .slt (BitVec.ofNat 32 (k 0).val) 0#32) _ (BitVec.ofNat 32 (k 0).val) = _
  rw [word_slt hk]
  rfl

theorem fold_ones {α : Type} (g : α → BitVec 1) (hg : ∀ a, g a = 1#1) (l : List α) :
    l.foldl (fun r a => IntOp.andi r (g a)) 1#1 = 1#1 := by
  induction l with
  | nil => rfl
  | cons a l ih => rw [List.foldl_cons, hg a]; exact ih

theorem inTable_at (k : S4096.Idx) : inTable k = 1#1 := by
  unfold inTable Host.reduce
  refine fold_ones (fun n => andi _ _ (S4096x1.rowMajor.symm n)) (fun n => ?_) _
  generalize S4096x1.rowMajor.symm n = q
  have hq : (q 0).val < 4096 := (q 0).isLt
  show IntOp.andi (IntOp.cmpi .sge (startRow q) 0#32) (IntOp.cmpi .sle (startRow q) 8191#32) = 1#1
  rw [startRow_at, word_sge hq, word_sle hq]
  rfl

/-- The table's element for a position and a column. -/
abbrev rowIdx (j : S4096x1024.Idx) : S8192x1024.Idx
  | ⟨0, _⟩ => ⟨(j 0).val, lt_of_lt_of_le (j 0).isLt (show 4096 ≤ 8192 by decide)⟩
  | ⟨1, _⟩ => ⟨(j 1).val, (j 1).isLt⟩

theorem gather_at {α : Type} (G : S8192x1024.Idx → α) (j : S4096x1024.Idx) :
    Host.gather gather_S8192x1024_S4096x1_S4096x1024_1_0_n_n_0_1_11024 G startRow j = G (rowIdx j) := by
  unfold Host.gather
  congr 1
  funext a
  refine Fin.ext ?_
  have hj : (j 0).val < 4096 := (j 0).isLt
  show GatherDims.start _ j startRow a + GatherDims.batchCoord _ j a + GatherDims.offCoord _ j a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S8192x1024_S4096x1_S4096x1024_1_0_n_n_0_1_11024.startIndexMap from List.mem_singleton.mpr rfl),
      startRow_at]
    show min (BitVec.ofNat 32 (j 0).val).toInt.toNat (8192 - 1) = (j 0).val
    rw [word_toInt hj]
    omega
  · unfold GatherDims.start
    rw [dif_neg (show (1 : Fin 2) ∉ gather_S8192x1024_S4096x1_S4096x1024_1_0_n_n_0_1_11024.startIndexMap from fun h => by
      have := List.mem_singleton.mp h; exact absurd this (by decide)), Nat.zero_add]
    unfold GatherDims.offCoord
    rw [dif_pos ((GatherDims.mem_sKept _ _).mpr ⟨fun h => absurd (List.mem_singleton.mp h) (by decide), List.not_mem_nil⟩)]
    rfl

/-! ## The result -/

/-- The row and column of a result index. -/
abbrev posIdx (x : S4x4096x1024.Idx) : S4096x1024.Idx
  | ⟨0, _⟩ => ⟨(x 1).val, (x 1).isLt⟩
  | ⟨1, _⟩ => ⟨(x 2).val, (x 2).isLt⟩

/-- The tokens plus the table's rows, every batch the same rows. -/
def out (A : S4x4096x1024.Idx → Elt F .f32) (G : S8192x1024.Idx → Elt F .f32) : S4x4096x1024.Idx → Elt F .f32 :=
  fun x => FloatOps.addf (φ := .f32) (A x) (G (rowIdx (posIdx x)))

theorem result_eq (A : S4x4096x1024.Idx → Elt F .f32) (G : S8192x1024.Idx → Elt F .f32) :
    addf (F := F) (φ := .f32) A (broadcastInDim S4x4096x1024 ![0, 1, 2] bcast_S1x4096x1024_S4x4096x1024_0_1_2 (broadcastInDim S1x4096x1024 ![1, 2] bcast_S4096x1024_S1x4096x1024_1_2
      (select (broadcastInDim S4096x1024 ![0] bcast_S4096_S4096x1024_0 inTable) (Host.gather gather_S8192x1024_S4096x1_S4096x1024_1_0_n_n_0_1_11024 G startRow)
        (broadcastInDim S4096x1024 ![] bcast_S_S4096x1024 (constant S_ .f32 0x7FC00000#32)))))
      = out A G := by
  have hs : ∀ W : S4096x1024.Idx → Elt F .f32,
      select (broadcastInDim S4096x1024 ![0] bcast_S4096_S4096x1024_0 inTable) (Host.gather gather_S8192x1024_S4096x1_S4096x1024_1_0_n_n_0_1_11024 G startRow) W
        = fun j => G (rowIdx j) := fun W => by
    funext j
    show Scalar.select (inTable _) (Host.gather gather_S8192x1024_S4096x1_S4096x1024_1_0_n_n_0_1_11024 G startRow j) (W j) = _
    rw [inTable_at, gather_at]
    rfl
  rw [hs]
  funext x
  refine congrArg (fun i : S4096x1024.Idx => FloatOps.addf (φ := .f32) (A x) (G (rowIdx i))) (?_ : _ = posIdx x)
  funext a
  match a with
  | ⟨0, _⟩ => rfl
  | ⟨1, _⟩ => rfl

/-- The reference's run: its result, its arguments as they were, no semaphore counted. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v4) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).1.trans (result_eq _ _), (h c).2⟩, sem_eq_zero_of_no_sems rfl r.2⟩)
    (Cert.ReferenceIdeal.Value.run m ρ)

end Cert.Proof.Ref

end
-- ==== Proof.Steps.lean ====
/-
  The kernel's task on one vector subcore, as a list of plain steps: start the copy of a piece of the
  position table, wait for it, start the copy of a block of tokens, wait for it, add, start the copy of a block of the
  result, wait for it. The printed task is that list run in order (`task_eq`): each printed window of statements is its
  own stretch of the list, and the stretches are joined end to end.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-! ## The buffers -/

/-- A scratch of sixteen rows. -/
abbrev Scr : Type := Memref sig .scVector .vmem S16x1024 .f32

abbrev tokW : Memref sig .scVector .hbm S16384x1024 .f32 := Memref.whole main_v0_scv
abbrev peW : Memref sig .scVector .hbm S8192x1024 .f32 := Memref.whole main_arg1_scv
abbrev outW : Memref sig .scVector .hbm S16384x1024 .f32 := Memref.whole main_v1_scv

/-- The five token scratches. -/
def tb : Fin 5 → Scr
  | 0 => Memref.whole cc0_scratch2
  | 1 => Memref.whole cc0_scratch3
  | 2 => Memref.whole cc0_scratch4
  | 3 => Memref.whole cc0_scratch5
  | 4 => Memref.whole cc0_scratch6

/-- The two position scratches. -/
def pb : Fin 2 → Scr
  | 0 => Memref.whole cc0_scratch0
  | 1 => Memref.whole cc0_scratch1

theorem tb_whole : ∀ p, (tb p).IsWhole
  | 0 => Memref.isWhole_whole _
  | 1 => Memref.isWhole_whole _
  | 2 => Memref.isWhole_whole _
  | 3 => Memref.isWhole_whole _
  | 4 => Memref.isWhole_whole _

theorem pb_whole : ∀ p, (pb p).IsWhole
  | 0 => Memref.isWhole_whole _
  | 1 => Memref.isWhole_whole _

/-- The semaphores of the copies into the position scratches, into the token scratches, and out of them. -/
def pSem : Fin 2 → DmaSem sig
  | 0 => cc0_scratch7.sem
  | 1 => cc0_scratch8.sem
def iSem : Fin 5 → DmaSem sig
  | 0 => cc0_scratch9.sem
  | 1 => cc0_scratch10.sem
  | 2 => cc0_scratch11.sem
  | 3 => cc0_scratch12.sem
  | 4 => cc0_scratch13.sem
def oSem : Fin 5 → DmaSem sig
  | 0 => cc0_scratch14.sem
  | 1 => cc0_scratch15.sem
  | 2 => cc0_scratch16.sem
  | 3 => cc0_scratch17.sem
  | 4 => cc0_scratch18.sem

/-! ## The blocks

Block `k` of a task's thirty-two is batch `k % 4`, the `k / 4`-th sixteen of the task's rows. -/

def bat (k : Fin 32) : Fin 4 := ⟨k.val % 4, Nat.mod_lt _ (by decide)⟩
def chk (k : Fin 32) : Fin 8 := ⟨k.val / 4, Nat.div_lt_of_lt_mul k.isLt⟩
def slot (k : Fin 32) : Fin 5 := ⟨k.val % 5, Nat.mod_lt _ (by decide)⟩
def pslot (q : Fin 8) : Fin 2 := ⟨q.val % 2, Nat.mod_lt _ (by decide)⟩

abbrev rowsR (L : grid0.Coords) (k : Fin 32) : Rect S16384x1024 :=
  Rect.unit (s := S16384x1024) (k0_off2 L (BitVec.ofNat 32 (4096 * (bat k).val)) (BitVec.ofNat 32 (16 * (chk k).val))) S16x1024.size
    (k0_off2_inb L (bat k) (chk k))
abbrev peR (L : grid0.Coords) (q : Fin 8) : Rect S8192x1024 :=
  Rect.unit (s := S8192x1024) (k0_off1 L (BitVec.ofNat 32 (16 * q.val))) S16x1024.size (k0_off1_inb L q)

/-- Block `k` of the tokens, piece `q` of the position table, block `k` of the result. -/
abbrev tokM (L : grid0.Coords) (k : Fin 32) : Memref sig .scVector .hbm S16x1024 .f32 := tokW.slice (rowsR L k) (fun _ => rfl)
abbrev peM (L : grid0.Coords) (q : Fin 8) : Memref sig .scVector .hbm S16x1024 .f32 := peW.slice (peR L q) (fun _ => rfl)
abbrev outM (L : grid0.Coords) (k : Fin 32) : Memref sig .scVector .hbm S16x1024 .f32 := outW.slice (rowsR L k) (fun _ => rfl)

/-! ## The steps -/

/-- Programs of the task at grid point `L`. -/
abbrev TP (F : FTy → Type) (L : grid0.Coords) (α : Type) : Type 1 :=
  Prog (TpuEff nD τ sig (Elt F) Λ₀ (.scVector ((L 0).castLE hcore0) ((L 1).castLE hsub0))) α

/-- The rows the sixteen lanes of trip `t` stand on. -/
abbrev laneR (t : Fin k0_t1_loop.trips) : Rect S16x1024 := Rect.unit (s := S16x1024) (k0_off3 t) S1x16.size (k0_off3_inb t)

/-- The addition of one scratch into another, sixteen lanes a trip. -/
def addLoop (L : grid0.Coords) (b p : Scr) : TP F L Unit :=
  Scf.Loop.for k0_t1_loop k0_t1_ok ⟨⟩ fun t _ => do
    let v : Vec F S1x16 .f32 ← Prog.lift (.load b (laneR t).toLoadRect (View.loadsAt_vmem h_S1x16))
    let w : Vec F S1x16 .f32 ← Prog.lift (.load p (laneR t).toLoadRect (View.loadsAt_vmem h_S1x16))
    let _ : Vec F S1x16 .f32 ← Prog.lift (.load b (laneR t).toLoadRect (View.loadsAt_vmem h_S1x16))
    Prog.lift (.store b (laneR t) (k0_pay1 v w) Finset.univ (View.stores_vmem_bits_univ h_S1x16 rfl) (.inl rfl))
    pure ⟨⟩

/-- A step of the task. -/
inductive Act
  | fetch (q : Fin 8) | fetched (q : Fin 8)
  | load (k : Fin 32) | loaded (k : Fin 32)
  | add (k : Fin 32)
  | store (k : Fin 32) | stored (k : Fin 32)
  deriving DecidableEq

def Act.run (L : grid0.Coords) : Act → TP F L PUnit
  | .fetch q => Prog.lift (.enqueueDma (peM L q) (.here (pb (pslot q))) (.dma (pSem (pslot q))) (View.wordExact_bits rfl) (pb_whole _).wordExact ⟨Or.inl rfl, trivial⟩)
  | .fetched q => Prog.lift (.waitDma2 (pSem (pslot q)) (peM L q) (pb (pslot q)) (View.wordExact_bits rfl) (pb_whole _).wordExact)
  | .load k => Prog.lift (.enqueueDma (tokM L k) (.here (tb (slot k))) (.dma (iSem (slot k))) (View.wordExact_bits rfl) (tb_whole _).wordExact ⟨Or.inl rfl, trivial⟩)
  | .loaded k => Prog.lift (.waitDma2 (iSem (slot k)) (tokM L k) (tb (slot k)) (View.wordExact_bits rfl) (tb_whole _).wordExact)
  | .add k => addLoop L (tb (slot k)) (pb (pslot (chk k)))
  | .store k => Prog.lift (.enqueueDma (tb (slot k)) (.here (outM L k)) (.dma (oSem (slot k))) (tb_whole _).wordExact (View.wordExact_bits rfl) ⟨Or.inl rfl, trivial⟩)
  | .stored k => Prog.lift (.waitDma2 (oSem (slot k)) (tb (slot k)) (outM L k) (tb_whole _).wordExact (View.wordExact_bits rfl))

/-- A list of steps run in order, then `k`. -/
def seq (L : grid0.Coords) {α : Type} : List Act → TP F L α → TP F L α
  | [], k => k
  | a :: l, k => a.run L >>= fun _ => seq L l k

theorem seq_bind (L : grid0.Coords) {α β : Type} (l : List Act) (k : TP F L α) (f : α → TP F L β) :
    seq L l k >>= f = seq L l (k >>= f) := by
  induction l with
  | nil => rfl
  | cons a l ih => simp only [seq, bind_assoc, ih]

theorem seq_append (L : grid0.Coords) {α : Type} (l l' : List Act) (k : TP F L α) :
    seq L l (seq L l' k) = seq L (l ++ l') k := by
  induction l with
  | nil => rfl
  | cons a l ih => simp only [seq, List.cons_append, ih]

/-! ## The printed windows -/

/-- A printed function of the task's operands, at the operands the launch passes. -/
abbrev at' (L : grid0.Coords) {β : grid0.Coords → Type 1}
    (f : (i : grid0.Coords) → (arg2 : Memref sig .scVector .hbm S16384x1024 .f32) → arg2.IsWhole → (arg3 : Memref sig .scVector .hbm S8192x1024 .f32) → arg3.IsWhole → (arg4 : Memref sig .scVector .hbm S16384x1024 .f32) → arg4.IsWhole → (arg5 : Scr) → arg5.IsWhole → (arg6 : Scr) → arg6.IsWhole → (arg7 : Scr) → arg7.IsWhole → (arg8 : Scr) → arg8.IsWhole → (arg9 : Scr) → arg9.IsWhole → (arg10 : Scr) → arg10.IsWhole → (arg11 : Scr) → arg11.IsWhole
      → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → β i) : β L :=
  f L tokW (Memref.isWhole_whole _) peW (Memref.isWhole_whole _) outW (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16 cc0_scratch17 cc0_scratch18

section Windows

variable (L : grid0.Coords)

theorem win33 : at' L (k0_part33 (F := F))
    = seq L [.fetch 0, .load 0, .load 1, .load 2, .fetched 0, .fetch 1] (pure (Scalar.muli (Scalar.addi (Scalar.muli (BitVec.ofNat 32 (L 1).val) 2#32) (BitVec.ofNat 32 (L 0).val)) 128#32)) := rfl
theorem win34 (v2 : BitVec 32) : at' L (k0_part34 (F := F)) v2
    = seq L [.load 3, .loaded 0, .add 0, .store 0, .load 4, .loaded 1, .add 1, .store 1, .stored 0] (pure ⟨⟩) := rfl
theorem win35 (v2 : BitVec 32) : at' L (k0_part35 (F := F)) v2
    = seq L [.load 5, .loaded 2, .add 2, .store 2, .stored 1, .load 6, .loaded 3, .add 3, .store 3] (pure ⟨⟩) := rfl
theorem win36 (v2 : BitVec 32) : at' L (k0_part36 (F := F)) v2
    = seq L [.fetched 1, .fetch 2, .stored 2, .load 7, .loaded 4, .add 4, .store 4, .stored 3, .load 8] (pure ⟨⟩) := rfl
theorem win37 (v2 : BitVec 32) : at' L (k0_part37 (F := F)) v2
    = seq L [.loaded 5, .add 5, .store 5, .stored 4, .load 9, .loaded 6, .add 6, .store 6, .stored 5] (pure (Scalar.addi 8192#32 v2)) := rfl
theorem win38 (v2 w : BitVec 32) : at' L (k0_part38 (F := F)) v2 w
    = seq L [.load 10, .loaded 7, .add 7, .store 7, .fetched 2, .fetch 3, .stored 6, .load 11, .loaded 8] (pure ⟨0#32, 1024#32⟩) := rfl
theorem win39 (v2 w w2 : BitVec 32) : at' L (k0_part39 (F := F)) v2 w w2
    = seq L [.add 8, .store 8, .stored 7, .load 12, .loaded 9, .add 9, .store 9, .stored 8] (pure ⟨⟩) := rfl
theorem win40 (v2 : BitVec 32) : at' L (k0_part40 (F := F)) v2
    = seq L [.load 13, .loaded 10, .add 10, .store 10, .stored 9, .load 14, .loaded 11, .add 11, .store 11, .fetched 3] (pure ⟨⟩) := rfl
theorem win41 (v2 : BitVec 32) : at' L (k0_part41 (F := F)) v2
    = seq L [.fetch 4, .stored 10, .load 15, .loaded 12, .add 12, .store 12, .stored 11, .load 16, .loaded 13] (pure ⟨⟩) := rfl
theorem win42 (v2 : BitVec 32) : at' L (k0_part42 (F := F)) v2
    = seq L [.add 13, .store 13, .stored 12, .load 17, .loaded 14, .add 14, .store 14, .stored 13] (pure ⟨⟩) := rfl
theorem win43 (v2 : BitVec 32) : at' L (k0_part43 (F := F)) v2
    = seq L [.load 18, .loaded 15, .add 15, .store 15, .fetched 4, .fetch 5, .stored 14, .load 19, .loaded 16, .add 16] (pure ⟨⟩) := rfl
theorem win44 (v2 : BitVec 32) : at' L (k0_part44 (F := F)) v2
    = seq L [.store 16, .stored 15, .load 20, .loaded 17, .add 17, .store 17, .stored 16, .load 21] (pure ⟨⟩) := rfl
theorem win45 (v2 : BitVec 32) : at' L (k0_part45 (F := F)) v2
    = seq L [.loaded 18, .add 18, .store 18, .stored 17, .load 22, .loaded 19, .add 19, .store 19, .fetched 5] (pure ⟨⟩) := rfl
theorem win46 (v2 : BitVec 32) : at' L (k0_part46 (F := F)) v2
    = seq L [.fetch 6, .stored 18, .load 23, .loaded 20, .add 20, .store 20, .stored 19, .load 24, .loaded 21] (pure ⟨0#32, 1#32⟩) := rfl
theorem win47 (v2 w w2 : BitVec 32) : at' L (k0_part47 (F := F)) v2 w w2
    = seq L [.add 21, .store 21, .stored 20, .load 25, .loaded 22, .add 22, .store 22, .stored 21, .load 26] (pure ⟨⟩) := rfl
theorem win48 (v2 : BitVec 32) : at' L (k0_part48 (F := F)) v2
    = seq L [.loaded 23, .add 23, .store 23, .fetched 6, .fetch 7, .stored 22, .load 27, .loaded 24, .add 24] (pure ⟨⟩) := rfl
theorem win49 (v2 : BitVec 32) : at' L (k0_part49 (F := F)) v2
    = seq L [.store 24, .stored 23, .load 28, .loaded 25, .add 25, .store 25, .stored 24, .load 29, .loaded 26] (pure ⟨0#32, 1024#32⟩) := rfl
theorem win50 (v2 w w2 : BitVec 32) : at' L (k0_part50 (F := F)) v2 w w2
    = seq L [.add 26, .store 26, .stored 25, .load 30, .loaded 27, .add 27, .store 27, .fetched 7, .stored 26] (pure ⟨Scalar.addi 12288#32 v2, 112#32⟩) := rfl
theorem win51 (v2 w w2 : BitVec 32) : at' L (k0_part51 (F := F)) v2 w w2
    = seq L [.load 31, .loaded 28, .add 28, .store 28, .loaded 29, .add 29, .store 29, .loaded 30, .add 30] (pure ⟨Scalar.addi 8192#32 v2, 112#32⟩) := rfl

end Windows

/-- The whole list of steps. -/
def plan : List Act :=
  [.fetch 0, .load 0, .load 1, .load 2, .fetched 0, .fetch 1, .load 3, .loaded 0, .add 0, .store 0,
   .load 4, .loaded 1, .add 1, .store 1,
   .stored 0, .load 5, .loaded 2, .add 2, .store 2,
   .stored 1, .load 6, .loaded 3, .add 3, .store 3,
   .fetched 1, .fetch 2, .stored 2, .load 7, .loaded 4, .add 4, .store 4,
   .stored 3, .load 8, .loaded 5, .add 5, .store 5,
   .stored 4, .load 9, .loaded 6, .add 6, .store 6,
   .stored 5, .load 10, .loaded 7, .add 7, .store 7,
   .fetched 2, .fetch 3, .stored 6, .load 11, .loaded 8, .add 8, .store 8,
   .stored 7, .load 12, .loaded 9, .add 9, .store 9,
   .stored 8, .load 13, .loaded 10, .add 10, .store 10,
   .stored 9, .load 14, .loaded 11, .add 11, .store 11,
   .fetched 3, .fetch 4, .stored 10, .load 15, .loaded 12, .add 12, .store 12,
   .stored 11, .load 16, .loaded 13, .add 13, .store 13,
   .stored 12, .load 17, .loaded 14, .add 14, .store 14,
   .stored 13, .load 18, .loaded 15, .add 15, .store 15,
   .fetched 4, .fetch 5, .stored 14, .load 19, .loaded 16, .add 16, .store 16,
   .stored 15, .load 20, .loaded 17, .add 17, .store 17,
   .stored 16, .load 21, .loaded 18, .add 18, .store 18,
   .stored 17, .load 22, .loaded 19, .add 19, .store 19,
   .fetched 5, .fetch 6, .stored 18, .load 23, .loaded 20, .add 20, .store 20,
   .stored 19, .load 24, .loaded 21, .add 21, .store 21,
   .stored 20, .load 25, .loaded 22, .add 22, .store 22,
   .stored 21, .load 26, .loaded 23, .add 23, .store 23,
   .fetched 6, .fetch 7, .stored 22, .load 27, .loaded 24, .add 24, .store 24,
   .stored 23, .load 28, .loaded 25, .add 25, .store 25,
   .stored 24, .load 29, .loaded 26, .add 26, .store 26,
   .stored 25, .load 30, .loaded 27, .add 27, .store 27,
   .fetched 7, .stored 26, .load 31, .loaded 28, .add 28, .store 28,
   .loaded 29, .add 29, .store 29,
   .loaded 30, .add 30, .store 30,
   .loaded 31, .add 31, .store 31,
   .stored 27, .stored 28, .stored 29, .stored 30, .stored 31]

/-- The printed task is the steps in order. -/
theorem task_eq (L : grid0.Coords) : at' L (cc0_sc_add (F := F)) = seq L plan (pure ⟨⟩) := by
  have h33 := win33 (F := F) L
  have h34 := win34 (F := F) L
  have h35 := win35 (F := F) L
  have h36 := win36 (F := F) L
  have h37 := win37 (F := F) L
  have h38 := win38 (F := F) L
  have h39 := win39 (F := F) L
  have h40 := win40 (F := F) L
  have h41 := win41 (F := F) L
  have h42 := win42 (F := F) L
  have h43 := win43 (F := F) L
  have h44 := win44 (F := F) L
  have h45 := win45 (F := F) L
  have h46 := win46 (F := F) L
  have h47 := win47 (F := F) L
  have h48 := win48 (F := F) L
  have h49 := win49 (F := F) L
  have h50 := win50 (F := F) L
  have h51 := win51 (F := F) L
  simp only [at'] at h33 h34 h35 h36 h37 h38 h39 h40 h41 h42 h43 h44 h45 h46 h47 h48 h49 h50 h51 ⊢
  simp only [cc0_sc_add, k0_part52, bind_assoc, h33, h34, h35, h36, h37, h38, h39, h40, h41, h42, h43, h44, h45, h46, h47, h48, h49, h50, h51, seq_bind, pure_bind, seq_append]
  rfl

end Cert.Proof

end
-- ==== Proof.Setup.lean ====
/-
  What every later module speaks about: the program as the launch theorem sees it, the ghost state, the thread that runs
  the task of one grid point, and the sum of two scratches.
-/
module

public import proofs.«01_k».proof.Proof.Steps
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters
abbrev MM (F : FTy → Type) : Type := MT nD τ sig (HIx 1) (Elt F) ℕ UU ℕ
abbrev EH : Emb UH (MT nD τ sig (HIx 1) (Elt F) ℕ UU ℕ) := embL
abbrev EC : UEmb Counters (MT nD τ sig (HIx 1) (Elt F) ℕ UU ℕ) := countersEmb (U := UU)

/-! ## The thread of a grid point -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable [FloatOps F]

/-- The weakest precondition of a program of the task. -/
abbrev wpT (d : Dev nD) (L : grid0.Coords) {α : Type} (p : TP F L α) (Q : α → sProp (MM F)) : sProp (MM F) :=
  wp frame (wpE (defs₀ (F := F)) 𝒱₀ (thr d L) none) Set.univ p Q

/-- The contents of a scratch added to another's, entry by entry. -/
def plus (u v : S16x1024.Idx → Elt F .f32) : S16x1024.Idx → Elt F .f32 := fun x => FloatOps.addf (φ := .f32) (u x) (v x)

end Cert.Proof
-- ==== Proof.Add.lean ====
/-
  The addition loop: after it the first scratch holds the sum of what both held, the second what it held.
-/
module

public import proofs.«01_k».proof.Proof.Setup
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Where a trip's lanes stand -/

theorem trips_eq : k0_t1_loop.trips = 1024 := by decide +kernel

theorem lane_off : ∀ t : Fin k0_t1_loop.trips, k0_off3 t 0 = t.val / 64 ∧ k0_off3 t 1 = 16 * (t.val % 64) := by decide +kernel

/-- The row-major position of an entry. -/
def flat (x : S16x1024.Idx) : ℕ := (x 0).val * 1024 + (x 1).val

theorem flat_lt (x : S16x1024.Idx) : flat x < 16384 := by
  have h0 : (x 0).val < 16 := (x 0).isLt
  have h1 : (x 1).val < 1024 := (x 1).isLt
  unfold flat; omega

/-- A trip's lanes stand on sixteen consecutive entries. -/
theorem flat_lane (t : Fin k0_t1_loop.trips) (y : (laneR t).shape.Idx) :
    flat ((laneR t).emb y) = 16 * t.val + (y 1).val := by
  obtain ⟨h0, h1⟩ := lane_off t
  have e0 : ((laneR t).emb y 0).val = k0_off3 t 0 + 1 * (y 0).val := rfl
  have e1 : ((laneR t).emb y 1).val = k0_off3 t 1 + 1 * (y 1).val := rfl
  have hy0 : (y 0).val < 1 := (y 0).isLt
  unfold flat; rw [e0, e1, h0, h1]; omega

/-- and those sixteen are all of them. -/
theorem mem_lane (t : Fin k0_t1_loop.trips) (x : S16x1024.Idx) (h : 16 * t.val ≤ flat x) (h' : flat x < 16 * t.val + 16) :
    ∃ y, (laneR t).emb y = x := by
  obtain ⟨h0, h1⟩ := lane_off t
  have hx1 : (x 1).val < 1024 := (x 1).isLt
  unfold flat at h h'
  refine ⟨fun a => match a with
    | ⟨0, _⟩ => ⟨0, Nat.one_pos⟩
    | ⟨1, _⟩ => ⟨(x 1).val - k0_off3 t 1, show _ < 16 by omega⟩, ?_⟩
  refine funext fun a => Fin.ext ?_
  match a with
  | ⟨0, _⟩ => show k0_off3 t 0 + 1 * 0 = (x 0).val; omega
  | ⟨1, _⟩ => show k0_off3 t 1 + 1 * ((x 1).val - k0_off3 t 1) = (x 1).val; omega

/-- What a trip stores: the lanes' sums. -/
theorem pay_apply (v w : Vec F S1x16 .f32) (y : S1x16.Idx) : k0_pay1 v w y = FloatOps.addf (φ := .f32) (v y) (w y) := by
  have e : ∀ u : Vec F S1x16 .f32, shapeCast S16 u shapeCasts_S1x16_S16 (Shape.reshapeEquiv shapeCasts_S16_S1x16 y) = u y := fun u =>
    congrFun (shapeCast_shapeCast u shapeCasts_S1x16_S16 shapeCasts_S16_S1x16) y
  show FloatOps.addf (φ := .f32) (shapeCast S16 v shapeCasts_S1x16_S16 (Shape.reshapeEquiv shapeCasts_S16_S1x16 y)) (shapeCast S16 w shapeCasts_S1x16_S16 (Shape.reshapeEquiv shapeCasts_S16_S1x16 y)) = _
  rw [e v, e w]

/-- One trip more: the entries below the trip's end are summed. -/
theorem read_trip (b : Scr) (t : Fin k0_t1_loop.trips) (u v : S16x1024.Idx → Elt F .f32) (f : b.view.ty.Contents (Elt F))
    (w : (laneR t).shape.Idx → Elt F .f32)
    (hf : ∀ x, b.view.read (Elt F) f x = if flat x < 16 * t.val then plus u v x else u x)
    (hw : ∀ y, w y = FloatOps.addf (φ := .f32) (b.view.read (Elt F) f ((laneR t).emb y)) (v ((laneR t).emb y))) (x : S16x1024.Idx) :
    b.view.read (Elt F) ((b.view.slice (laneR t)).write (Elt F) f w Finset.univ) x = if flat x < 16 * (t.val + 1) then plus u v x else u x := by
  by_cases h : 16 * t.val ≤ flat x ∧ flat x < 16 * t.val + 16
  · obtain ⟨y, rfl⟩ := mem_lane t x h.1 h.2
    rw [View.read_slice_write_emb _ _ _ (Finset.mem_univ y), hw, hf, if_neg (by omega), if_pos (by omega)]
    rfl
  · have hx : x ∉ Finset.univ.map (laneR t).emb := fun hm => by
      obtain ⟨y, -, rfl⟩ := Finset.mem_map.mp hm
      have hy : (y 1).val < 16 := (y 1).isLt
      rw [flat_lane] at h; omega
    rw [View.read_slice_write_of_not_mem _ _ _ _ hx, hf]
    by_cases h2 : flat x < 16 * t.val
    · rw [if_pos h2, if_pos (by omega)]
    · rw [if_neg h2, if_neg (by omega)]

/-! ## The loop -/

section
variable (d : Dev nD) (L : grid0.Coords) (b p : Scr)

theorem wpT_ret {α : Type} (a : α) (Q : α → sProp 𝕄) : Q a ⊢ wpT d L (Prog.ret a : TP F L α) Q :=
  Idealize.SL.Sem.le_wp_ret frame _ Set.univ a Q

/-- Before trip `t`: the entries below `16 t` summed. -/
def addInv (u : S16x1024.Idx → Elt F .f32) (g : Buf (Elt F) (p.view.loc (thr d L))) (t : ℕ) (_ : Unit) : sProp 𝕄 :=
  iprop((∃ f : Buf (Elt F) (b.view.loc (thr d L)),
      ⌜∀ x, b.view.read (Elt F) f x = if flat x < 16 * t then plus u (p.view.read (Elt F) g) x else u x⌝
        ∗ (b.view.loc (thr d L) ↦[b.view.set]{fullShare} f))
    ∗ (p.view.loc (thr d L) ↦[p.view.set]{fullShare} g))

theorem wp_addLoop (f : Buf (Elt F) (b.view.loc (thr d L))) (g : Buf (Elt F) (p.view.loc (thr d L))) (Q : Unit → sProp 𝕄) :
    iprop((b.view.loc (thr d L) ↦[b.view.set]{fullShare} f) ∗ (p.view.loc (thr d L) ↦[p.view.set]{fullShare} g)
      ∗ ((∃ f' : Buf (Elt F) (b.view.loc (thr d L)), ⌜b.view.read (Elt F) f' = plus (b.view.read (Elt F) f) (p.view.read (Elt F) g)⌝
          ∗ (b.view.loc (thr d L) ↦[b.view.set]{fullShare} f') ∗ (p.view.loc (thr d L) ↦[p.view.set]{fullShare} g)) -∗ Q ⟨⟩))
      ⊢ wpT d L (addLoop (F := F) L b p) Q := by
  iintro ⟨Hb, Hp, HQ⟩
  unfold addLoop
  iapply (Scf.wp_for frame (wpE (defs₀ (F := F)) 𝒱₀ (thr d L) none) Set.univ k0_t1_loop.lb k0_t1_loop.ub k0_t1_loop.st k0_t1_ok (⟨⟩ : Unit) _
    (addInv d L b p (b.view.read (Elt F) f) g) ?_)
  · intro t _
    unfold addInv
    iintro ⟨⟨%f', %hf', Hb⟩, Hp⟩
    iapply (wp_load 𝒱₀ (thr d L) none Set.univ (m := b) (r := (laneR t).toLoadRect) (S := b.view.set) (f := f') (View.setOn_subset_set _ _)) $$ Hb
    iintro Hb
    iapply (wp_load 𝒱₀ (thr d L) none Set.univ (m := p) (r := (laneR t).toLoadRect) (S := p.view.set) (f := g) (View.setOn_subset_set _ _)) $$ Hp
    iintro Hp
    iapply (wp_load 𝒱₀ (thr d L) none Set.univ (m := b) (r := (laneR t).toLoadRect) (S := b.view.set) (f := f') (View.setOn_subset_set _ _)) $$ Hb
    iintro Hb
    iapply (wp_store 𝒱₀ (thr d L) none Set.univ (m := b) (r := laneR t) (S := b.view.set) (f := f') (Mk := Finset.univ) (View.set_slice_subset b.view (laneR t))) $$ Hb
    iintro Hb
    iapply (wpT_ret d L (⟨⟩ : Unit) _)
    isplitl [Hb]
    · iexists ((b.access (laneR t)).write (Elt F) f' (k0_pay1 (b.view.readAt (Elt F) (laneR t).toLoadRect f')
        (p.view.readAt (Elt F) (laneR t).toLoadRect g)) Finset.univ); isplitr
      · ipureintro
        exact read_trip b t (b.view.read (Elt F) f) (p.view.read (Elt F) g) f' _ hf' fun y => pay_apply _ _ y
      · iexact Hb
    · iexact Hp
  · isplitl [Hb Hp]
    · unfold addInv
      isplitl [Hb]
      · iexists f; isplitr
        · ipureintro; intro x; rw [if_neg (by omega)]
        · iexact Hb
      · iexact Hp
    iintro %_ HI
    iapply HQ
    unfold addInv
    icases HI with ⟨⟨%f', %hf', Hb⟩, Hp⟩
    iexists f'; isplitr
    · ipureintro; funext x; rw [hf' x, if_pos]
      have := flat_lt x
      have e : Scf.trips k0_t1_loop.lb k0_t1_loop.ub k0_t1_loop.st = 1024 := trips_eq
      rw [e]; omega
    · isplitl [Hb] <;> iassumption

end

end Cert.Proof
-- ==== Proof.Items.lean ====
/-
  What the task holds for each block of tokens, each piece of the position table and each scratch, stage by stage, and
  what every step of the task does to it.
-/
module

public import proofs.«01_k».proof.Proof.Add

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The stages -/

/-- A block of tokens: not yet loaded, on its way in, in its scratch, summed there, on its way out, out. -/
inductive BS | wait | inFly | ready | summed | outFly | done
  deriving DecidableEq

/-- A piece of the position table: not in a scratch, on its way in, in its scratch. -/
inductive PS | idle | fly | ready
  deriving DecidableEq

variable (d : Dev nD) (L : grid0.Coords)
variable (X : Buf (Elt F) ((tokW).view.loc (thr d L))) (G : Buf (Elt F) ((peW).view.loc (thr d L)))
variable (O R : Buf (Elt F) ((outW).view.loc (thr d L)))

/-- A scratch holding `u`; a scratch holding anything. -/
def has (b : Scr) (u : S16x1024.Idx → Elt F .f32) : sProp 𝕄 :=
  iprop(∃ f : Buf (Elt F) (b.view.loc (thr d L)), ⌜b.view.read (Elt F) f = u⌝ ∗ (b.view.loc (thr d L) ↦[b.view.set]{fullShare} f))
def any (b : Scr) : sProp 𝕄 := iprop(∃ f : Buf (Elt F) (b.view.loc (thr d L)), b.view.loc (thr d L) ↦[b.view.set]{fullShare} f)

/-- Block `k` of the tokens, piece `q` of the position table, block `k` of the result. -/
def tokB (k : Fin 32) : sProp 𝕄 := (tokM L k).view.loc (thr d L) ↦[(tokM L k).view.set]{fullShare} X
def peB (q : Fin 8) : sProp 𝕄 := (peM L q).view.loc (thr d L) ↦[(peM L q).view.set]{fullShare} G
def outB (k : Fin 32) : sProp 𝕄 := (outM L k).view.loc (thr d L) ↦[(outM L k).view.set]{fullShare} R

abbrev tokRd (k : Fin 32) : S16x1024.Idx → Elt F .f32 := (tokM L k).view.read (Elt F) X
abbrev peRd (q : Fin 8) : S16x1024.Idx → Elt F .f32 := (peM L q).view.read (Elt F) G

/-- A semaphore of the task at zero. -/
def zero (s : DmaSem sig) : sProp 𝕄 := semVal (thr d L, SemLoc.dma s) 0

/-- A copy under way on `s`, crediting what the view `v` weighs, to deliver `D`. -/
abbrev fly (s : DmaSem sig) (N : ℕ) (D : sProp 𝕄) : sProp 𝕄 := Transfers.Flight (EC (F := F)) (thr d L) (.dma s) (none : HIx 1) N D

def blk : BS → Fin 32 → sProp 𝕄
  | .wait, k => iprop(tokB d L X k ∗ outB d L O k)
  | .inFly, k => iprop(fly d L (iSem (slot k)) (tb (slot k)).view.dmaCredit iprop(has d L (tb (slot k)) (tokRd d L X k) ∗ tokB d L X k)
      ∗ zero d L (oSem (slot k)) ∗ outB d L O k)
  | .ready, k => iprop(has d L (tb (slot k)) (tokRd d L X k) ∗ tokB d L X k ∗ zero d L (iSem (slot k)) ∗ zero d L (oSem (slot k)) ∗ outB d L O k)
  | .summed, k => iprop(has d L (tb (slot k)) (plus (tokRd d L X k) (peRd d L G (chk k))) ∗ tokB d L X k ∗ zero d L (iSem (slot k))
      ∗ zero d L (oSem (slot k)) ∗ outB d L O k)
  | .outFly, k => iprop(fly d L (oSem (slot k)) (outM L k).view.dmaCredit iprop(outB d L R k ∗ any d L (tb (slot k)))
      ∗ tokB d L X k ∗ zero d L (iSem (slot k)))
  | .done, k => iprop(tokB d L X k ∗ outB d L R k)

/-- A token scratch, if it is free. -/
def sl : Bool → Fin 5 → sProp 𝕄
  | true, s => iprop(any d L (tb s) ∗ zero d L (iSem s) ∗ zero d L (oSem s))
  | false, _ => iprop(emp)

def pe : PS → Fin 8 → sProp 𝕄
  | .idle, q => peB d L G q
  | .fly, q => fly d L (pSem (pslot q)) (pb (pslot q)).view.dmaCredit iprop(has d L (pb (pslot q)) (peRd d L G q) ∗ peB d L G q)
  | .ready, q => iprop(has d L (pb (pslot q)) (peRd d L G q) ∗ peB d L G q ∗ zero d L (pSem (pslot q)))

/-- A position scratch, if it is free. -/
def psl : Bool → Fin 2 → sProp 𝕄
  | true, s => iprop(any d L (pb s) ∗ zero d L (pSem s))
  | false, _ => iprop(emp)

/-- What the task owes, and that it may wait. -/
def ow (Ow : CellTallies nD τ sig (HIx 1)) (W : Waits sig (HIx 1)) : sProp 𝕄 :=
  iprop(Transfers.MayWaits (thr d L) (none : HIx 1) Ow ∗ ∃ W', ⌜∀ p ∈ W', p ∈ W ∨ p.2 = none⌝ ∗ owes (thr d L) Ow W')

/-! ## The steps -/

/-- A copy into a scratch, started. -/
theorem wp_in (src : Memref sig .scVector .hbm S16x1024 .f32) (dst : Scr) (s : DmaSem sig) (hs : src.view.WordExact) (hd : dst.view.WordExact)
    (ht : DmaTarget.Typed (nD := nD) .hbm (.dma s) (.here (p := Proc.scVector (cV L) (jV L)) dst))
    (f : Buf (Elt F) (src.view.loc (thr d L))) (Q : PUnit → sProp 𝕄) :
    iprop((src.view.loc (thr d L) ↦[src.view.set]{fullShare} f) ∗ any d L dst ∗ zero d L s
      ∗ (fly d L s dst.view.dmaCredit iprop(has d L dst (src.view.read (Elt F) f) ∗ (src.view.loc (thr d L) ↦[src.view.set]{fullShare} f)) -∗ Q ⟨⟩))
      ⊢ wpT d L (Prog.lift (.enqueueDma src (.here dst) (.dma s) hs hd ht)) Q := by
  unfold any zero
  iintro ⟨Hs, ⟨%g, Hd⟩, Hz, HQ⟩
  iapply (Transfers.wp_dmaLocal (EC (F := F)) 𝒱₀ (thr d L) none (src := src) (dst := dst) (sm := .dma s) (Sd := dst.view.set) (fs := f) (fd := g) (q := fullShare)
    none dst.view.dmaCredit rfl (View.dmaCredit_pos _ (by decide)) subset_rfl) $$ [Hs Hd Hz]
  · isplitl [Hs]; · iexact Hs
    isplitl [Hd] <;> iassumption
  iintro HF
  iapply (wpT_ret d L (⟨⟩ : PUnit) _)
  iapply HQ
  iapply (Transfers.Flight_mono (EC (F := F)) (thr d L) (D' := iprop(has d L dst (src.view.read (Elt F) f) ∗ (src.view.loc (thr d L) ↦[src.view.set]{fullShare} f))) ?_) $$ HF
  unfold has
  iintro ⟨Hd, Hs⟩
  isplitl [Hd]
  · iexists _; isplitr
    swap
    · iexact Hd
    · ipureintro; exact View.read_write_univ _ _
  · iexact Hs

/-- A copy out of a scratch holding what the result has there, started. -/
theorem wp_out (src : Scr) (dst : Memref sig .scVector .hbm S16x1024 .f32) (s : DmaSem sig) (hs : src.view.WordExact) (hd : dst.view.WordExact)
    (ht : DmaTarget.Typed (nD := nD) .vmem (.dma s) (.here (p := Proc.scVector (cV L) (jV L)) dst))
    (g r : Buf (Elt F) (dst.view.loc (thr d L))) (Q : PUnit → sProp 𝕄) :
    iprop(has d L src (dst.view.read (Elt F) r) ∗ (dst.view.loc (thr d L) ↦[dst.view.set]{fullShare} g) ∗ zero d L s
      ∗ (fly d L s dst.view.dmaCredit iprop((dst.view.loc (thr d L) ↦[dst.view.set]{fullShare} r) ∗ any d L src) -∗ Q ⟨⟩))
      ⊢ wpT d L (Prog.lift (.enqueueDma src (.here dst) (.dma s) hs hd ht)) Q := by
  unfold has any zero
  iintro ⟨⟨%f, %hf, Hs⟩, Hd, Hz, HQ⟩
  iapply (Transfers.wp_dmaLocal (EC (F := F)) 𝒱₀ (thr d L) none (src := src) (dst := dst) (sm := .dma s) (Sd := dst.view.set) (fs := f) (fd := g) (q := fullShare)
    none dst.view.dmaCredit rfl (View.dmaCredit_pos _ (by decide)) subset_rfl) $$ [Hs Hd Hz]
  · isplitl [Hs]; · iexact Hs
    isplitl [Hd] <;> iassumption
  iintro HF
  iapply (wpT_ret d L (⟨⟩ : PUnit) _)
  iapply HQ
  iapply (Transfers.Flight_mono (EC (F := F)) (thr d L) (D' := iprop((dst.view.loc (thr d L) ↦[dst.view.set]{fullShare} r)
    ∗ ∃ f : Buf (Elt F) (src.view.loc (thr d L)), src.view.loc (thr d L) ↦[src.view.set]{fullShare} f)) ?_) $$ HF
  have e : ((dst.view.loc (thr d L) ↦[dst.view.set]{fullShare} (dst.view.write (Elt F) g (src.view.read (Elt F) f) Finset.univ)) : sProp 𝕄)
      = (dst.view.loc (thr d L) ↦[dst.view.set]{fullShare} r) := by
    rw [hf, View.write_read_eq_piecewise]
    exact pointsTo_congr fun i hi => Finset.piecewise_eq_of_mem _ _ _ hi
  iintro ⟨Hd, Hs⟩
  isplitl [Hd]
  · iapply (Entails.of_eq e); iexact Hd
  · iexists f; iexact Hs

/-- A copy's wait. -/
theorem wp_back {sp sp' : Space} (src : Memref sig .scVector sp S16x1024 .f32) (dst : Memref sig .scVector sp' S16x1024 .f32) (s : DmaSem sig)
    (hs : src.view.WordExact) (hd : dst.view.WordExact) (B : sProp 𝕄) (Ow : CellTallies nD τ sig (HIx 1)) (W : Waits sig (HIx 1)) (Q : PUnit → sProp 𝕄) :
    iprop(fly d L s dst.view.dmaCredit B ∗ ow d L Ow W ∗ (iprop(B ∗ zero d L s ∗ ow d L Ow W) -∗ Q ⟨⟩))
      ⊢ wpT d L (Prog.lift (.waitDma2 s src dst hs hd)) Q := by
  unfold ow zero
  iintro ⟨HF, ⟨#HM, %W', %hW', HO⟩, HQ⟩
  ihave HM' := (Transfers.MayWaits.elim (SemLoc.dma s)) $$ HM
  iapply (Transfers.wp_waitLocalO (EC (F := F)) 𝒱₀ (thr d L) none (srcw := src) (dstw := dst) none rfl) $$ [HF HO HM']
  · isplitl [HF]; · iexact HF
    isplitl [HO] <;> iassumption
  iintro ⟨HB, Hz, HO⟩
  iapply (wpT_ret d L (⟨⟩ : PUnit) _)
  iapply HQ
  isplitl [HB]; · iexact HB
  isplitl [Hz]; · iexact Hz
  isplitr; · iexact HM
  iexists (insert (SemLoc.dma s, (none : HIx 1)) W'); isplitr
  · ipureintro; intro p hp
    rcases Finset.mem_insert.mp hp with hp | hp
    · exact .inr (hp ▸ rfl)
    · exact hW' p hp
  · iexact HO

/-! ## Each step of the task -/

section
variable (Ow : CellTallies nD τ sig (HIx 1)) (W : Waits sig (HIx 1)) (k : Fin 32) (q : Fin 8)

theorem run_fetch (Q : PUnit → sProp 𝕄) : iprop(pe d L G .idle q ∗ psl (F := F) d L true (pslot q) ∗ (pe d L G .fly q -∗ Q ⟨⟩)) ⊢ wpT d L ((Act.fetch q).run L) Q := by
  unfold pe psl peB
  iintro ⟨Hs, ⟨Hd, Hz⟩, HQ⟩
  iapply (wp_in d L (peM L q) (pb (pslot q)) (pSem (pslot q)) _ _ _ G Q)
  isplitl [Hs]; · iexact Hs
  isplitl [Hd]; · iexact Hd
  isplitl [Hz] <;> iassumption

theorem run_fetched (Q : PUnit → sProp 𝕄) : iprop(pe d L G .fly q ∗ ow d L Ow W ∗ (iprop(pe d L G .ready q ∗ ow d L Ow W) -∗ Q ⟨⟩)) ⊢ wpT d L ((Act.fetched q).run L) Q := by
  unfold pe
  iintro ⟨HF, HO, HQ⟩
  iapply (wp_back d L (peM L q) (pb (pslot q)) (pSem (pslot q)) _ _ _ Ow W Q)
  isplitl [HF]; · iexact HF
  isplitl [HO]; · iexact HO
  iintro ⟨⟨Hb, Hp⟩, Hz, HO⟩
  iapply HQ
  isplitr [HO]
  · isplitl [Hb]; · iexact Hb
    isplitl [Hp] <;> iassumption
  · iexact HO

theorem run_load (Q : PUnit → sProp 𝕄) : iprop(blk d L X G O R .wait k ∗ sl (F := F) d L true (slot k) ∗ (blk d L X G O R .inFly k -∗ Q ⟨⟩)) ⊢ wpT d L ((Act.load k).run L) Q := by
  unfold blk sl tokB
  iintro ⟨⟨Ht, Ho⟩, ⟨Hb, Hi, Hz⟩, HQ⟩
  iapply (wp_in d L (tokM L k) (tb (slot k)) (iSem (slot k)) _ _ _ X Q)
  isplitl [Ht]; · iexact Ht
  isplitl [Hb]; · iexact Hb
  isplitl [Hi]; · iexact Hi
  iintro HF
  iapply HQ
  isplitl [HF]; · iexact HF
  isplitl [Hz] <;> iassumption

theorem run_loaded (Q : PUnit → sProp 𝕄) : iprop(blk d L X G O R .inFly k ∗ ow d L Ow W ∗ (iprop(blk d L X G O R .ready k ∗ ow d L Ow W) -∗ Q ⟨⟩)) ⊢ wpT d L ((Act.loaded k).run L) Q := by
  unfold blk
  iintro ⟨⟨HF, Hz, Ho⟩, HO, HQ⟩
  iapply (wp_back d L (tokM L k) (tb (slot k)) (iSem (slot k)) _ _ _ Ow W Q)
  isplitl [HF]; · iexact HF
  isplitl [HO]; · iexact HO
  iintro ⟨⟨Hb, Ht⟩, Hi, HO⟩
  iapply HQ
  isplitr [HO]
  · isplitl [Hb]; · iexact Hb
    isplitl [Ht]; · iexact Ht
    isplitl [Hi]; · iexact Hi
    isplitl [Hz] <;> iassumption
  · iexact HO

theorem run_add (Q : PUnit → sProp 𝕄) : iprop(blk d L X G O R .ready k ∗ pe d L G .ready (chk k)
      ∗ (iprop(blk d L X G O R .summed k ∗ pe d L G .ready (chk k)) -∗ Q ⟨⟩)) ⊢ wpT d L ((Act.add k).run L) Q := by
  unfold blk pe has
  iintro ⟨⟨⟨%f, %hf, Hb⟩, Hrest⟩, ⟨⟨%g, %hg, Hp⟩, Hprest⟩, HQ⟩
  iapply (wp_addLoop d L (tb (slot k)) (pb (pslot (chk k))) f g Q)
  isplitl [Hb]; · iexact Hb
  isplitl [Hp]; · iexact Hp
  iintro ⟨%f', %hf', Hb, Hp⟩
  iapply HQ
  isplitl [Hb Hrest]
  · isplitl [Hb]
    · iexists f'; isplitr
      · ipureintro; rw [hf', hf, hg]
      · iexact Hb
    · iexact Hrest
  · isplitl [Hp]
    · iexists g; isplitr
      · ipureintro; exact hg
      · iexact Hp
    · iexact Hprest

theorem run_store (hR : (outM L k).view.read (Elt F) R = plus (tokRd d L X k) (peRd d L G (chk k))) (Q : PUnit → sProp 𝕄) :
    iprop(blk d L X G O R .summed k ∗ (blk d L X G O R .outFly k -∗ Q ⟨⟩)) ⊢ wpT d L ((Act.store k).run L) Q := by
  have e : has d L (tb (slot k)) (plus (tokRd d L X k) (peRd d L G (chk k))) = has d L (tb (slot k)) ((outM L k).view.read (Elt F) R) := by rw [hR]
  unfold blk outB
  iintro ⟨⟨Hb', Ht, Hi, Hz, Ho⟩, HQ⟩
  ihave Hb := (Entails.of_eq e) $$ Hb'
  iapply (wp_out d L (tb (slot k)) (outM L k) (oSem (slot k)) _ _ _ O R Q)
  isplitl [Hb]; · iexact Hb
  isplitl [Ho]; · iexact Ho
  isplitl [Hz]; · iexact Hz
  iintro HF
  iapply HQ
  isplitl [HF]; · iexact HF
  isplitl [Ht] <;> iassumption

theorem run_stored (Q : PUnit → sProp 𝕄) : iprop(blk d L X G O R .outFly k ∗ ow d L Ow W
      ∗ (iprop(blk d L X G O R .done k ∗ sl (F := F) d L true (slot k) ∗ ow d L Ow W) -∗ Q ⟨⟩)) ⊢ wpT d L ((Act.stored k).run L) Q := by
  unfold blk sl
  iintro ⟨⟨HF, Ht, Hi⟩, HO, HQ⟩
  iapply (wp_back d L (tb (slot k)) (outM L k) (oSem (slot k)) _ _ _ Ow W Q)
  isplitl [HF]; · iexact HF
  isplitl [HO]; · iexact HO
  iintro ⟨⟨Ho, Hb⟩, Hz, HO⟩
  iapply HQ
  isplitl [Ht Ho]; · isplitl [Ht] <;> iassumption
  isplitr [HO]
  · isplitl [Hb]; · iexact Hb
    isplitl [Hi] <;> iassumption
  · iexact HO

/-- A piece no longer needed leaves its scratch free. -/
theorem release : pe d L G .ready q ⊢ iprop(pe d L G .idle q ∗ psl (F := F) d L true (pslot q)) := by
  unfold pe psl has any
  iintro ⟨⟨%f, %hf, Hb⟩, Hp, Hz⟩
  isplitl [Hp]; · iexact Hp
  isplitl [Hb]
  · iexists f; iexact Hb
  · iexact Hz

end

end Cert.Proof
-- ==== Proof.Tile.lean ====
/-
  The run of one task. Its state says at which stage each block and each piece is, and which scratches are free; each
  step of the task takes one state to the next (`next`), and what the task holds follows (`wp_step`). The whole list of
  steps is then one induction (`wp_seq`) and one evaluation of `next` along it (`exec_plan`).
-/
module

public import proofs.«01_k».proof.Proof.Items

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

/-! ## States -/

structure Stage where
  blk : Fin 32 → BS
  sl : Fin 5 → Bool
  pe : Fin 8 → PS
  psl : Fin 2 → Bool

/-- What happens in a task: its steps, and its dropping of a piece no longer needed. -/
inductive Ev
  | act (a : Act)
  | free (q : Fin 8)
  deriving DecidableEq

open Function (update)

def next (σ : Stage) : Ev → Option Stage
  | .free q => if σ.pe q = .ready ∧ σ.psl (pslot q) = false then some { σ with pe := update σ.pe q .idle, psl := update σ.psl (pslot q) true } else none
  | .act (.fetch q) => if σ.pe q = .idle ∧ σ.psl (pslot q) = true then some { σ with pe := update σ.pe q .fly, psl := update σ.psl (pslot q) false } else none
  | .act (.fetched q) => if σ.pe q = .fly then some { σ with pe := update σ.pe q .ready } else none
  | .act (.load k) => if σ.blk k = .wait ∧ σ.sl (slot k) = true then some { σ with blk := update σ.blk k .inFly, sl := update σ.sl (slot k) false } else none
  | .act (.loaded k) => if σ.blk k = .inFly then some { σ with blk := update σ.blk k .ready } else none
  | .act (.add k) => if σ.blk k = .ready ∧ σ.pe (chk k) = .ready then some { σ with blk := update σ.blk k .summed } else none
  | .act (.store k) => if σ.blk k = .summed then some { σ with blk := update σ.blk k .outFly } else none
  | .act (.stored k) => if σ.blk k = .outFly ∧ σ.sl (slot k) = false then some { σ with blk := update σ.blk k .done, sl := update σ.sl (slot k) true } else none

def exec : List Ev → Stage → Option Stage
  | [], σ => some σ
  | e :: l, σ => (next σ e).bind (exec l)

def acts : List Ev → List Act
  | [] => []
  | .act a :: l => a :: acts l
  | .free _ :: l => acts l

/-- A piece is dropped right before its scratch is filled again; the last two at the end. -/
def withFrees : List Act → List Ev
  | [] => [.free 6, .free 7]
  | .fetch q :: l => if 2 ≤ q.val then .free (q - 2) :: .act (.fetch q) :: withFrees l else .act (.fetch q) :: withFrees l
  | a :: l => .act a :: withFrees l

def first : Stage := ⟨fun _ => .wait, fun _ => true, fun _ => .idle, fun _ => true⟩

def Stage.isLast (σ : Stage) : Bool :=
  decide (∀ k, σ.blk k = .done) && decide (∀ s, σ.sl s = true) && decide (∀ q, σ.pe q = .idle) && decide (∀ s, σ.psl s = true)

def last : Stage := ⟨fun _ => .done, fun _ => true, fun _ => .idle, fun _ => true⟩

theorem Stage.eq_last {σ : Stage} (h : σ.isLast = true) : σ = last := by
  simp only [Stage.isLast, Bool.and_eq_true, decide_eq_true_eq] at h
  obtain ⟨⟨⟨h1, h2⟩, h3⟩, h4⟩ := h
  obtain ⟨b, s, p, q⟩ := σ
  exact congr (congr (congr (congrArg Stage.mk (funext h1)) (funext h2)) (funext h3)) (funext h4)

theorem acts_plan : acts (withFrees plan) = plan := by decide +kernel

theorem exec_plan : exec (withFrees plan) first = some last := by
  have h : ((exec (withFrees plan) first).any Stage.isLast) = true := by decide +kernel
  cases hσ : exec (withFrees plan) first with
  | none => rw [hσ] at h; cases h
  | some σ => rw [hσ] at h; rw [Stage.eq_last h]

/-! ## What the task holds -/

variable (d : Dev nD) (L : grid0.Coords)
variable (X : Buf (Elt F) ((tokW).view.loc (thr d L))) (G : Buf (Elt F) ((peW).view.loc (thr d L)))
variable (O R : Buf (Elt F) ((outW).view.loc (thr d L)))
variable (Ow : CellTallies nD τ sig (HIx 1)) (W : Waits sig (HIx 1))

def holds (σ : Stage) : sProp 𝕄 :=
  iprop((bigSep Finset.univ fun k => blk d L X G O R (σ.blk k) k) ∗ (bigSep Finset.univ fun s => sl (F := F) d L (σ.sl s) s)
    ∗ (bigSep Finset.univ fun q => pe d L G (σ.pe q) q) ∗ (bigSep Finset.univ fun s => psl (F := F) d L (σ.psl s) s) ∗ ow d L Ow W)

/-- One member of a family taken out, to be put back at another stage. -/
theorem take {A I : Type} [Fintype I] [DecidableEq I] (Ψ : A → I → sProp 𝕄) (f : I → A) (k : I) (u v : A) (h : f k = u) :
    (bigSep Finset.univ fun j => Ψ (f j) j) ⊢ iprop(Ψ u k ∗ (Ψ v k -∗ bigSep Finset.univ fun j => Ψ (update f k v j) j)) := by
  rw [BI.bigSep_univ_split k, BI.bigSep_univ_split (Φ := fun j => Ψ (update f k v j) j) k, h, Function.update_self,
    BI.bigSep_congr (s := Finset.univ.erase k) (Φ := fun j => Ψ (update f k v j) j) (Ψ := fun j => Ψ (f j) j)
      (fun j hj => by rw [Function.update_of_ne (Finset.ne_of_mem_erase hj)])]
  show iprop(Ψ u k ∗ _) ⊢ iprop(Ψ u k ∗ (Ψ v k -∗ (Ψ v k ∗ _)))
  iintro ⟨H, HR⟩
  isplitl [H]; · iexact H
  iintro H
  isplitl [H] <;> iassumption

/-- An idle scratch is a scratch nothing is said about. -/
theorem emp_sl (s : Fin 5) : (iprop(emp) : sProp 𝕄) ⊢ sl (F := F) d L false s := Entails.rfl
theorem emp_psl (s : Fin 2) : (iprop(emp) : sProp 𝕄) ⊢ psl (F := F) d L false s := Entails.rfl

theorem free_step (σ σ' : Stage) (q : Fin 8) (h : next σ (.free q) = some σ') :
    holds d L X G O R Ow W σ ⊢ holds d L X G O R Ow W σ' := by
  simp only [next] at h; split at h
  · rename_i hc; obtain rfl := (Option.some.inj h).symm
    unfold holds
    iintro ⟨HB, HS, HP, HQ, HO⟩
    ihave H1 := (take (pe d L G) σ.pe q .ready .idle hc.1) $$ HP
    icases H1 with ⟨Hp, HP⟩
    ihave H2 := (take (psl (F := F) d L) σ.psl (pslot q) false true hc.2) $$ HQ
    icases H2 with ⟨-, HQ⟩
    ihave H3 := (release d L G q) $$ Hp
    icases H3 with ⟨Hp, Hs⟩
    isplitl [HB]; · iexact HB
    isplitl [HS]; · iexact HS
    isplitl [HP Hp]; · iapply HP; iexact Hp
    isplitl [HQ Hs]; · iapply HQ; iexact Hs
    iexact HO
  · cases h

theorem wp_step (hR : ∀ k, (outM L k).view.read (Elt F) R = plus (tokRd d L X k) (peRd d L G (chk k)))
    (σ σ' : Stage) (a : Act) (h : next σ (.act a) = some σ') (Q : PUnit → sProp 𝕄) :
    iprop(holds d L X G O R Ow W σ ∗ (holds d L X G O R Ow W σ' -∗ Q ⟨⟩)) ⊢ wpT d L (a.run L) Q := by
  cases a with
  | fetch q =>
    simp only [next] at h; split at h
    · rename_i hc; obtain rfl := (Option.some.inj h).symm
      unfold holds
      iintro ⟨⟨HB, HS, HP, HQ, HO⟩, HK⟩
      ihave H1 := (take (pe d L G) σ.pe q .idle .fly hc.1) $$ HP
      icases H1 with ⟨Hp, HP⟩
      ihave H2 := (take (psl (F := F) d L) σ.psl (pslot q) true false hc.2) $$ HQ
      icases H2 with ⟨Hs, HQ⟩
      iapply (run_fetch d L G q Q)
      isplitl [Hp]; · iexact Hp
      isplitl [Hs]; · iexact Hs
      iintro Hp
      iapply HK
      isplitl [HB]; · iexact HB
      isplitl [HS]; · iexact HS
      isplitl [HP Hp]; · iapply HP; iexact Hp
      isplitl [HQ]; · iapply HQ; iapply (emp_psl d L (pslot q)); iempintro
      iexact HO
    · cases h
  | fetched q =>
    simp only [next] at h; split at h
    · rename_i hc; obtain rfl := (Option.some.inj h).symm
      unfold holds
      iintro ⟨⟨HB, HS, HP, HQ, HO⟩, HK⟩
      ihave H1 := (take (pe d L G) σ.pe q .fly .ready hc) $$ HP
      icases H1 with ⟨Hp, HP⟩
      iapply (run_fetched d L G Ow W q Q)
      isplitl [Hp]; · iexact Hp
      isplitl [HO]; · iexact HO
      iintro ⟨Hp, HO⟩
      iapply HK
      isplitl [HB]; · iexact HB
      isplitl [HS]; · iexact HS
      isplitl [HP Hp]; · iapply HP; iexact Hp
      isplitl [HQ] <;> iassumption
    · cases h
  | load k =>
    simp only [next] at h; split at h
    · rename_i hc; obtain rfl := (Option.some.inj h).symm
      unfold holds
      iintro ⟨⟨HB, HS, HP, HQ, HO⟩, HK⟩
      ihave H1 := (take (blk d L X G O R) σ.blk k .wait .inFly hc.1) $$ HB
      icases H1 with ⟨Hb, HB⟩
      ihave H2 := (take (sl (F := F) d L) σ.sl (slot k) true false hc.2) $$ HS
      icases H2 with ⟨Hs, HS⟩
      iapply (run_load d L X G O R k Q)
      isplitl [Hb]; · iexact Hb
      isplitl [Hs]; · iexact Hs
      iintro Hb
      iapply HK
      isplitl [HB Hb]; · iapply HB; iexact Hb
      isplitl [HS]; · iapply HS; iapply (emp_sl d L (slot k)); iempintro
      isplitl [HP]; · iexact HP
      isplitl [HQ] <;> iassumption
    · cases h
  | loaded k =>
    simp only [next] at h; split at h
    · rename_i hc; obtain rfl := (Option.some.inj h).symm
      unfold holds
      iintro ⟨⟨HB, HS, HP, HQ, HO⟩, HK⟩
      ihave H1 := (take (blk d L X G O R) σ.blk k .inFly .ready hc) $$ HB
      icases H1 with ⟨Hb, HB⟩
      iapply (run_loaded d L X G O R Ow W k Q)
      isplitl [Hb]; · iexact Hb
      isplitl [HO]; · iexact HO
      iintro ⟨Hb, HO⟩
      iapply HK
      isplitl [HB Hb]; · iapply HB; iexact Hb
      isplitl [HS]; · iexact HS
      isplitl [HP]; · iexact HP
      isplitl [HQ] <;> iassumption
    · cases h
  | add k =>
    simp only [next] at h; split at h
    · rename_i hc; obtain rfl := (Option.some.inj h).symm
      unfold holds
      iintro ⟨⟨HB, HS, HP, HQ, HO⟩, HK⟩
      ihave H1 := (take (blk d L X G O R) σ.blk k .ready .summed hc.1) $$ HB
      icases H1 with ⟨Hb, HB⟩
      ihave H2 := (take (pe d L G) σ.pe (chk k) .ready .ready hc.2) $$ HP
      icases H2 with ⟨Hp, HP⟩
      iapply (run_add d L X G O R k Q)
      isplitl [Hb]; · iexact Hb
      isplitl [Hp]; · iexact Hp
      iintro ⟨Hb, Hp⟩
      iapply HK
      isplitl [HB Hb]; · iapply HB; iexact Hb
      isplitl [HS]; · iexact HS
      isplitl [HP Hp]
      · rw [← hc.2, Function.update_eq_self]; iapply HP; rw [hc.2]; iexact Hp
      isplitl [HQ] <;> iassumption
    · cases h
  | store k =>
    simp only [next] at h; split at h
    · rename_i hc; obtain rfl := (Option.some.inj h).symm
      unfold holds
      iintro ⟨⟨HB, HS, HP, HQ, HO⟩, HK⟩
      ihave H1 := (take (blk d L X G O R) σ.blk k .summed .outFly hc) $$ HB
      icases H1 with ⟨Hb, HB⟩
      iapply (run_store d L X G O R k (hR k) Q)
      isplitl [Hb]; · iexact Hb
      iintro Hb
      iapply HK
      isplitl [HB Hb]; · iapply HB; iexact Hb
      isplitl [HS]; · iexact HS
      isplitl [HP]; · iexact HP
      isplitl [HQ] <;> iassumption
    · cases h
  | stored k =>
    simp only [next] at h; split at h
    · rename_i hc; obtain rfl := (Option.some.inj h).symm
      unfold holds
      iintro ⟨⟨HB, HS, HP, HQ, HO⟩, HK⟩
      ihave H1 := (take (blk d L X G O R) σ.blk k .outFly .done hc.1) $$ HB
      icases H1 with ⟨Hb, HB⟩
      ihave H2 := (take (sl (F := F) d L) σ.sl (slot k) false true hc.2) $$ HS
      icases H2 with ⟨-, HS⟩
      iapply (run_stored d L X G O R Ow W k Q)
      isplitl [Hb]; · iexact Hb
      isplitl [HO]; · iexact HO
      iintro ⟨Hb, Hs, HO⟩
      iapply HK
      isplitl [HB Hb]; · iapply HB; iexact Hb
      isplitl [HS Hs]; · iapply HS; iexact Hs
      isplitl [HP]; · iexact HP
      isplitl [HQ] <;> iassumption
    · cases h

theorem wp_seq (hR : ∀ k, (outM L k).view.read (Elt F) R = plus (tokRd d L X k) (peRd d L G (chk k)))
    {α : Type} (l : List Ev) (σ σ' : Stage) (h : exec l σ = some σ') (p : TP F L α) (Q : α → sProp 𝕄) :
    iprop(holds d L X G O R Ow W σ ∗ (holds d L X G O R Ow W σ' -∗ wpT d L p Q)) ⊢ wpT d L (seq L (acts l) p) Q := by
  induction l generalizing σ with
  | nil =>
    obtain rfl := Option.some.inj h
    iintro ⟨HH, HK⟩
    iapply HK; iexact HH
  | cons e l ih =>
    obtain ⟨σ₁, h₁, h₂⟩ := Option.bind_eq_some_iff.mp h
    cases e with
    | free q =>
      iintro ⟨HH, HK⟩
      ihave HH' := (free_step d L X G O R Ow W σ σ₁ q h₁) $$ HH
      iapply (ih σ₁ h₂)
      isplitl [HH'] <;> iassumption
    | act a =>
      show _ ⊢ wpT d L (a.run L >>= fun _ => seq L (acts l) p) Q
      unfold wpT
      rw [wp_bind]
      iintro ⟨HH, HK⟩
      iapply (wp_step d L X G O R Ow W hR σ σ₁ a h₁ _)
      isplitl [HH]; · iexact HH
      iintro HH
      iapply (ih σ₁ h₂)
      isplitl [HH] <;> iassumption

/-- The task, from its first state to its last. -/
theorem wp_task (hR : ∀ k, (outM L k).view.read (Elt F) R = plus (tokRd d L X k) (peRd d L G (chk k))) (Q : PUnit → sProp 𝕄) :
    iprop(holds d L X G O R Ow W first ∗ (holds d L X G O R Ow W last -∗ Q ⟨⟩)) ⊢ wpT d L (at' L (cc0_sc_add (F := F))) Q := by
  rw [task_eq, ← acts_plan]
  iintro ⟨HH, HK⟩
  iapply (wp_seq d L X G O R Ow W hR (withFrees plan) first last exec_plan (pure ⟨⟩) Q)
  isplitl [HH]; · iexact HH
  iintro HH
  iapply (wpT_ret d L (⟨⟩ : PUnit) Q)
  iapply HK; iexact HH

end Cert.Proof
-- ==== Proof.Geometry.lean ====
/-
  Where the blocks lie: the rows of each block of tokens and of each piece of the position table as numbers, the blocks
  of all the tasks a partition of the token array, the pieces a partition of the part of the table the tasks read, and
  the result each block is to hold.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws

variable {F : FTy → Type} [FloatOps F]

local notation "𝕄" => MT nD τ sig (HIx 1) (Elt F) ℕ UU ℕ

/-! ## First rows -/

/-- The first row of a task's part of the position table. -/
def base (L : grid0.Coords) : ℕ := 256 * (L 1).val + 128 * (L 0).val

theorem off1_row (L : grid0.Coords) (q : Fin 8) : k0_off1 L (BitVec.ofNat 32 (16 * q.val)) 0 = base L + 16 * q.val := by
  have h0 : (L 0).val < 2 := (L 0).isLt
  have h1 : (L 1).val < 16 := (L 1).isLt
  have hq := q.isLt
  simp [k0_off1, base, Scalar.muli, Scalar.addi, IntOp.muli, IntOp.addi, BitVec.toNat_add, BitVec.toNat_mul]
  omega

theorem off1_col (L : grid0.Coords) (q : Fin 8) : k0_off1 L (BitVec.ofNat 32 (16 * q.val)) 1 = 0 := rfl

theorem off2_row (L : grid0.Coords) (b : Fin 4) (q : Fin 8) :
    k0_off2 L (BitVec.ofNat 32 (4096 * b.val)) (BitVec.ofNat 32 (16 * q.val)) 0 = 4096 * b.val + base L + 16 * q.val := by
  have h0 : (L 0).val < 2 := (L 0).isLt
  have h1 : (L 1).val < 16 := (L 1).isLt
  have hb := b.isLt
  have hq := q.isLt
  simp [k0_off2, base, Scalar.muli, Scalar.addi, IntOp.muli, IntOp.addi, BitVec.toNat_add, BitVec.toNat_mul]
  omega

theorem off2_col (L : grid0.Coords) (b : Fin 4) (q : Fin 8) :
    k0_off2 L (BitVec.ofNat 32 (4096 * b.val)) (BitVec.ofNat 32 (16 * q.val)) 1 = 0 := rfl

theorem base_lt (L : grid0.Coords) : base L + 128 ≤ 4096 := by
  have h0 : (L 0).val < 2 := (L 0).isLt
  have h1 : (L 1).val < 16 := (L 1).isLt
  unfold base; omega

/-! ## The elements of a block -/

theorem mem_rows (L : grid0.Coords) (k : Fin 32) (x : S16384x1024.Idx) :
    x ∈ (rowsR L k).set ↔ 4096 * (bat k).val + base L + 16 * (chk k).val ≤ (x 0).val
      ∧ (x 0).val < 4096 * (bat k).val + base L + 16 * (chk k).val + 16 := by
  rw [Rect.mem_set_unit, Fin.forall_fin_two, off2_row, off2_col]
  have h1 : (x 1).val < 1024 := (x 1).isLt
  show (_ ∧ _ < _ + 16) ∧ (_ ∧ _ < 0 + 1024) ↔ _
  omega

theorem mem_piece (L : grid0.Coords) (q : Fin 8) (x : S8192x1024.Idx) :
    x ∈ (peR L q).set ↔ base L + 16 * q.val ≤ (x 0).val ∧ (x 0).val < base L + 16 * q.val + 16 := by
  rw [Rect.mem_set_unit, Fin.forall_fin_two, off1_row, off1_col]
  have h1 : (x 1).val < 1024 := (x 1).isLt
  show (_ ∧ _ < _ + 16) ∧ (_ ∧ _ < 0 + 1024) ↔ _
  omega

theorem tokM_set (L : grid0.Coords) (k : Fin 32) : (tokM L k).view.set = (rowsR L k).set := by
  show ((View.whole (main_v0_scv : Ref sig .scVector)).slice (rowsR L k)).set = _
  rw [View.set_slice]; exact Finset.map_refl

theorem outM_set (L : grid0.Coords) (k : Fin 32) : (outM L k).view.set = (rowsR L k).set := by
  show ((View.whole (main_v1_scv : Ref sig .scVector)).slice (rowsR L k)).set = _
  rw [View.set_slice]; exact Finset.map_refl

theorem peM_set (L : grid0.Coords) (q : Fin 8) : (peM L q).view.set = (peR L q).set := by
  show ((View.whole (main_arg1_scv : Ref sig .scVector)).slice (peR L q)).set = _
  rw [View.set_slice]; exact Finset.map_refl

/-! ## All the tasks' blocks -/

/-- The grid point of SparseCore `c`, subcore `i`. -/
def pt (c : Fin 2) (i : Fin 16) : grid0.Coords := fun | 0 => c | 1 => i | ⟨_ + 2, h⟩ => absurd h (Nat.not_lt.2 (Nat.le_add_left _ _))

theorem base_pt (c : Fin 2) (i : Fin 16) : base (pt c i) = 256 * i.val + 128 * c.val := rfl

/-- A row number's digits: its batch, its subcore, its SparseCore, its block within the task. -/
theorem digits {x b i c q : ℕ} (hb : b < 4) (hi : i < 16) (hc : c < 2) (hq : q < 8)
    (h : 4096 * b + (256 * i + 128 * c) + 16 * q ≤ x ∧ x < 4096 * b + (256 * i + 128 * c) + 16 * q + 16) :
    b = x / 4096 ∧ i = x / 256 % 16 ∧ c = x / 128 % 2 ∧ q = x / 16 % 8 := by
  obtain ⟨h1, h2⟩ := h
  have e1 : x / 4096 = b := by omega
  have e2 : x / 256 = 16 * b + i := by omega
  have e3 : x / 128 = 32 * b + 2 * i + c := by omega
  have e4 : x / 16 = 256 * b + 16 * i + 8 * c + q := by omega
  omega

/-- The rows of block `t.2.2` of the task of subcore `t.2.1` of SparseCore `t.1`. -/
def blockSet (t : Fin 2 × Fin 16 × Fin 32) : Finset S16384x1024.Idx := (rowsR (pt t.1 t.2.1) t.2.2).set
def pieceSet (t : Fin 2 × Fin 16 × Fin 8) : Finset S8192x1024.Idx := (peR (pt t.1 t.2.1) t.2.2).set

theorem blocks_disjoint : ∀ t ∈ (Finset.univ : Finset (Fin 2 × Fin 16 × Fin 32)), ∀ t' ∈ (Finset.univ : Finset (Fin 2 × Fin 16 × Fin 32)),
    t ≠ t' → Disjoint (blockSet t) (blockSet t') := by
  rintro ⟨c, i, k⟩ - ⟨c', i', k'⟩ - hne
  refine Finset.disjoint_left.mpr fun x hx hx' => hne ?_
  obtain ⟨h1, h2, h3, h4⟩ := digits (bat k).isLt i.isLt c.isLt (chk k).isLt ((mem_rows _ _ x).mp hx)
  obtain ⟨h1', h2', h3', h4'⟩ := digits (bat k').isLt i'.isLt c'.isLt (chk k').isLt ((mem_rows _ _ x).mp hx')
  have hk : k.val = k'.val := by
    have e1 : k.val % 4 = k'.val % 4 := h1.trans h1'.symm
    have e2 : k.val / 4 = k'.val / 4 := h4.trans h4'.symm
    omega
  exact Prod.ext (Fin.ext (h3.trans h3'.symm)) (Prod.ext (Fin.ext (h2.trans h2'.symm)) (Fin.ext hk))

theorem blocks_cover : (Finset.univ : Finset (Fin 2 × Fin 16 × Fin 32)).biUnion blockSet = Finset.univ := by
  ext x
  rw [Finset.mem_biUnion]
  refine iff_of_true ?_ (Finset.mem_univ x)
  have hx : (x 0).val < 16384 := (x 0).isLt
  refine ⟨(⟨(x 0).val / 128 % 2, Nat.mod_lt _ (by decide)⟩, ⟨(x 0).val / 256 % 16, Nat.mod_lt _ (by decide)⟩,
    ⟨4 * ((x 0).val / 16 % 8) + (x 0).val / 4096, by omega⟩), Finset.mem_univ _, (mem_rows _ _ x).mpr ?_⟩
  rw [base_pt]
  show 4096 * ((4 * ((x 0).val / 16 % 8) + (x 0).val / 4096) % 4) + (256 * ((x 0).val / 256 % 16) + 128 * ((x 0).val / 128 % 2))
      + 16 * ((4 * ((x 0).val / 16 % 8) + (x 0).val / 4096) / 4) ≤ (x 0).val
    ∧ (x 0).val < 4096 * ((4 * ((x 0).val / 16 % 8) + (x 0).val / 4096) % 4) + (256 * ((x 0).val / 256 % 16) + 128 * ((x 0).val / 128 % 2))
      + 16 * ((4 * ((x 0).val / 16 % 8) + (x 0).val / 4096) / 4) + 16
  generalize (x 0).val = n at hx ⊢
  have e1 : (4 * (n / 16 % 8) + n / 4096) % 4 = n / 4096 := by omega
  have e2 : (4 * (n / 16 % 8) + n / 4096) / 4 = n / 16 % 8 := by omega
  have e3 : n / 16 / 8 = n / 128 := by omega
  have e4 : n / 128 / 2 = n / 256 := by omega
  have e5 : n / 256 / 16 = n / 4096 := by omega
  rw [e1, e2]
  omega

theorem pieces_disjoint : ∀ t ∈ (Finset.univ : Finset (Fin 2 × Fin 16 × Fin 8)), ∀ t' ∈ (Finset.univ : Finset (Fin 2 × Fin 16 × Fin 8)),
    t ≠ t' → Disjoint (pieceSet t) (pieceSet t') := by
  rintro ⟨c, i, q⟩ - ⟨c', i', q'⟩ - hne
  refine Finset.disjoint_left.mpr fun x hx hx' => hne ?_
  have low (c : Fin 2) (i : Fin 16) (q : Fin 8) (h : x ∈ (peR (pt c i) q).set) :
      i.val = (x 0).val / 256 % 16 ∧ c.val = (x 0).val / 128 % 2 ∧ q.val = (x 0).val / 16 % 8 :=
    (digits (b := 0) (by decide) i.isLt c.isLt q.isLt (by have h := (mem_piece _ _ x).mp h; rw [base_pt] at h; omega)).2
  obtain ⟨h2, h3, h4⟩ := low c i q hx
  obtain ⟨h2', h3', h4'⟩ := low c' i' q' hx'
  exact Prod.ext (Fin.ext (h3.trans h3'.symm)) (Prod.ext (Fin.ext (h2.trans h2'.symm)) (Fin.ext (h4.trans h4'.symm)))

/-- The part of the position table the tasks read. -/
def usedSet : Finset S8192x1024.Idx := (Finset.univ : Finset (Fin 2 × Fin 16 × Fin 8)).biUnion pieceSet

/-! ## The result -/

/-- The row of the position table a row of the tokens takes. -/
def peIdx (x : S16384x1024.Idx) : S8192x1024.Idx
  | 0 => ⟨(x 0).val % 4096, Nat.lt_of_lt_of_le (Nat.mod_lt _ (by decide)) (by decide)⟩
  | 1 => x 1
  | ⟨_ + 2, h⟩ => absurd h (Nat.not_lt.2 (Nat.le_add_left _ _))

/-- Every row of the tokens with its row of the position table added. -/
def sumOf (X : S16384x1024.Idx → Elt F .f32) (G : S8192x1024.Idx → Elt F .f32) : S16384x1024.Idx → Elt F .f32 :=
  fun x => FloatOps.addf (φ := .f32) (X x) (G (peIdx x))

theorem emb_unit_row {s : Shape} (off size : Fin s.rank → ℕ) (h : ∀ a, off a + size a ≤ s.size a) (y : (Rect.unit off size h).shape.Idx)
    (a : Fin s.rank) : ((Rect.unit off size h).emb y a).val = off a + (y a).val := by
  show off a + 1 * (y a).val = _; rw [Nat.one_mul]

/-- The piece of the table added to a block of tokens is the one at the block's rows. -/
theorem peIdx_block (L : grid0.Coords) (k : Fin 32) (y : S16x1024.Idx) :
    peIdx ((rowsR L k).emb y) = (peR L (chk k)).emb y := by
  have h0 : ((rowsR L k).emb y 0).val = 4096 * (bat k).val + base L + 16 * (chk k).val + (y 0).val := by
    rw [← off2_row]; exact emb_unit_row _ _ _ _ _
  have h0' : ((peR L (chk k)).emb y 0).val = base L + 16 * (chk k).val + (y 0).val := by
    rw [← off1_row]; exact emb_unit_row _ _ _ _ _
  have h1 : ((rowsR L k).emb y 1).val = (y 1).val := by
    rw [show ((rowsR L k).emb y 1).val = _ from emb_unit_row _ _ _ _ _]; exact Nat.zero_add _
  have h1' : ((peR L (chk k)).emb y 1).val = (y 1).val := by
    rw [show ((peR L (chk k)).emb y 1).val = _ from emb_unit_row _ _ _ _ _]; exact Nat.zero_add _
  have hb := base_lt L
  have hq := (chk k).isLt
  have hy : (y 0).val < 16 := (y 0).isLt
  refine funext fun a => Fin.ext ?_
  match a with
  | 0 => show ((rowsR L k).emb y 0).val % 4096 = _; rw [h0, h0']; omega
  | 1 => show ((rowsR L k).emb y 1).val = _; rw [h1, h1']

variable (d : Dev nD) (L : grid0.Coords)

/-- What a task leaves in each block of the result is that block of the sum. -/
theorem sum_block (X : Buf (Elt F) ((tokW).view.loc (thr d L))) (G : Buf (Elt F) ((peW).view.loc (thr d L))) (k : Fin 32) :
    (outM L k).view.read (Elt F) (sumOf (F := F) X G : Buf (Elt F) ((outW).view.loc (thr d L)))
      = plus (tokRd d L X k) (peRd d L G (chk k)) := by
  refine funext fun y => ?_
  show FloatOps.addf (φ := .f32) (X ((rowsR L k).emb y)) (G (peIdx ((rowsR L k).emb y)))
    = FloatOps.addf (φ := .f32) (X ((rowsR L k).emb y)) (G ((peR L (chk k)).emb y))
  rw [peIdx_block]

end Cert.Proof
-- ==== Proof.Body.lean ====
/-
  One task as the launch runs it: its scratches and semaphores taken out of what its subcore holds, the task run, and
  all of it handed back.
-/
module

public import proofs.«01_k».proof.Proof.Geometry

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Taking a family out of a whole -/

theorem bigSep_takes {M : Type} [URA M] {ι β : Type} [Fintype ι] [DecidableEq ι] [DecidableEq β] (s : Finset β) (f : ι → β)
    (hf : Function.Injective f) (hs : ∀ i, f i ∈ s) (Φ : β → sProp M) :
    bigSep s Φ = iprop((bigSep Finset.univ fun i => Φ (f i)) ∗ bigSep (s \ Finset.univ.image f) Φ) := by
  have hsub : Finset.univ.image f ⊆ s := fun b hb => by
    obtain ⟨i, -, rfl⟩ := Finset.mem_image.mp hb
    exact hs i
  rw [SparseCore.bigSep_sdiff_split' hsub, SparseCore.bigSep_image_of_injOn hf.injOn]

/-! ## The task's semaphores -/

/-- The semaphores in, the semaphores out, the position scratches' semaphores. -/
def semAt : Fin 5 ⊕ Fin 5 ⊕ Fin 2 → DmaSem sig := Sum.elim iSem (Sum.elim oSem pSem)

theorem semAt_injective : Function.Injective semAt := by
  have h : ∀ a b, semAt a = semAt b → a = b := by decide
  exact fun a b => h a b

theorem semAt_scoped : ∀ a, (SemLoc.dma (semAt a) : SemLoc sig).isScoped .scVector = true := by decide

variable (d : Dev nD) (L : grid0.Coords)

def semCell (a : Fin 5 ⊕ Fin 5 ⊕ Fin 2) : GSem nD τ sig := (thr d L, SemLoc.dma (semAt a))

theorem semCell_injective : Function.Injective (semCell d L) := fun a b e =>
  semAt_injective (SemLoc.dma.inj (Prod.mk.inj e).2)

theorem sems_eq : (ownSems0 (thr d L) : sProp 𝕄)
    = iprop(((bigSep Finset.univ fun s => zero d L (iSem s)) ∗ (bigSep Finset.univ fun s => zero d L (oSem s)) ∗ (bigSep Finset.univ fun s => zero d L (pSem s)))
        ∗ bigSep (ownCells (thr d L) \ Finset.univ.image (semCell d L)) fun g => semVal g 0) := by
  unfold SparseCore.Cfg.ownSems0
  rw [bigSep_takes _ (semCell d L) (semCell_injective d L) (fun a => mem_ownCells.mpr ⟨rfl, semAt_scoped a⟩), bigSep_univ_sum, bigSep_univ_sum]
  rfl

/-! ## The task's scratches -/

def tbR : Fin 5 → Ref sig .scVector
  | 0 => cc0_scratch2
  | 1 => cc0_scratch3
  | 2 => cc0_scratch4
  | 3 => cc0_scratch5
  | 4 => cc0_scratch6
def pbR : Fin 2 → Ref sig .scVector
  | 0 => cc0_scratch0
  | 1 => cc0_scratch1

def bufAt : Fin 5 ⊕ Fin 2 → Ref sig .scVector := Sum.elim tbR pbR

theorem bufAt_injective : Function.Injective bufAt := by
  have h : ∀ a b, bufAt a = bufAt b → a = b := by decide
  exact fun a b => h a b

/-- A buffer of the subcore, holding anything. -/
def anyBuf (b : DevRef τ sig) : sProp 𝕄 := iprop(∃ f, ((d, b) : Loc nD τ sig) ↦{fullShare} f)

def devBuf (a : Fin 5 ⊕ Fin 2) : DevRef τ sig := (Proc.scVector (cV L) (jV L)).devRef (bufAt a)

theorem devBuf_injective : Function.Injective (devBuf L) := fun a b e => bufAt_injective (Proc.devRef_injective _ e)

theorem devBuf_own (a : Fin 5 ⊕ Fin 2) : devBuf L a ∈ ownRefs (τ := τ) (sig := sig) (.scVector (cV L) (jV L)) :=
  SparseCore.Cfg.mem_ownRefs_of_owner (p := Proc.scVector (cV L) (jV L)) (b := devBuf L a)
    (match a with
      | .inl 0 => rfl | .inl 1 => rfl | .inl 2 => rfl | .inl 3 => rfl | .inl 4 => rfl
      | .inr 0 => rfl | .inr 1 => rfl)

theorem any_tb (s : Fin 5) : (any d L (tb s) : sProp 𝕄) = anyBuf d (devBuf L (.inl s)) := by
  unfold any anyBuf
  match s with
  | 0 => rw [show (tb 0).view.set = Finset.univ from View.set_whole _]; rfl
  | 1 => rw [show (tb 1).view.set = Finset.univ from View.set_whole _]; rfl
  | 2 => rw [show (tb 2).view.set = Finset.univ from View.set_whole _]; rfl
  | 3 => rw [show (tb 3).view.set = Finset.univ from View.set_whole _]; rfl
  | 4 => rw [show (tb 4).view.set = Finset.univ from View.set_whole _]; rfl

theorem any_pb (s : Fin 2) : (any d L (pb s) : sProp 𝕄) = anyBuf d (devBuf L (.inr s)) := by
  unfold any anyBuf
  match s with
  | 0 => rw [show (pb 0).view.set = Finset.univ from View.set_whole _]; rfl
  | 1 => rw [show (pb 1).view.set = Finset.univ from View.set_whole _]; rfl

theorem bufs_eq : (ownBufs (thr d L) : sProp 𝕄)
    = iprop(((bigSep Finset.univ fun s => any d L (tb s)) ∗ (bigSep Finset.univ fun s => any d L (pb s)))
        ∗ bigSep (ownRefs (τ := τ) (sig := sig) (.scVector (cV L) (jV L)) \ Finset.univ.image (devBuf L)) (anyBuf d)) := by
  show bigSep (ownRefs (τ := τ) (sig := sig) (.scVector (cV L) (jV L))) (anyBuf d) = _
  rw [bigSep_takes _ (devBuf L) (devBuf_injective L) (devBuf_own L), bigSep_univ_sum]
  simp only [any_tb, any_pb]
  rfl

/-! ## The task from launch to end -/

variable (X : Buf (Elt F) ((tokW).view.loc (thr d L))) (G : Buf (Elt F) ((peW).view.loc (thr d L)))
variable (O : Buf (Elt F) ((outW).view.loc (thr d L)))

/-- What a task is handed, `O` the contents of its blocks of the result; it hands the same back with the sum there. -/
def hand : sProp 𝕄 :=
  iprop((bigSep Finset.univ fun k => tokB d L X k) ∗ (bigSep Finset.univ fun k => outB d L O k) ∗ (bigSep Finset.univ fun q => peB d L G q))

variable (Ow : CellTallies nD τ sig (HIx 1)) (W : Waits sig (HIx 1))

theorem holds_first (R : Buf (Elt F) ((outW).view.loc (thr d L))) : holds d L X G O R Ow W first
    = iprop(((bigSep Finset.univ fun k => tokB d L X k) ∗ (bigSep Finset.univ fun k => outB d L O k))
      ∗ ((bigSep Finset.univ fun s => any d L (tb s)) ∗ (bigSep Finset.univ fun s => zero d L (iSem s)) ∗ (bigSep Finset.univ fun s => zero d L (oSem s)))
      ∗ (bigSep Finset.univ fun q => peB d L G q)
      ∗ ((bigSep Finset.univ fun s => any d L (pb s)) ∗ (bigSep Finset.univ fun s => zero d L (pSem s)))
      ∗ ow d L Ow W) := by
  simp only [← bigSep_sep']
  rfl

theorem holds_last (R : Buf (Elt F) ((outW).view.loc (thr d L))) : holds d L X G O R Ow W last
    = iprop(((bigSep Finset.univ fun k => tokB d L X k) ∗ (bigSep Finset.univ fun k => outB d L R k))
      ∗ ((bigSep Finset.univ fun s => any d L (tb s)) ∗ (bigSep Finset.univ fun s => zero d L (iSem s)) ∗ (bigSep Finset.univ fun s => zero d L (oSem s)))
      ∗ (bigSep Finset.univ fun q => peB d L G q)
      ∗ ((bigSep Finset.univ fun s => any d L (pb s)) ∗ (bigSep Finset.univ fun s => zero d L (pSem s)))
      ∗ ow d L Ow W) := by
  simp only [← bigSep_sep']
  rfl

/-- The sum a task is to leave. -/
abbrev sumBuf : Buf (Elt F) ((outW).view.loc (thr d L)) := sumOf (F := F) X G

theorem tile_body (hO : ∀ g, Ow g none = 0) :
    iprop(levAts (K (F := F)).L (K (F := F)).lev ∗ emp ∗ hand d L X G O
        ∗ scopedBufs (thr d L) ∗ scopedSems0 (thr d L) ∗ owes (thr d L) Ow W)
      ⊢ wpT d L (at' L (cc0_sc_add (F := F)))
          fun _ => iprop(hand d L X G (sumBuf d L X G) ∗ scopedBufs (thr d L) ∗ scopedSems0 (thr d L)
            ∗ ∃ W', ⌜∀ p ∈ W', p ∈ W ∨ p.2 = none⌝ ∗ owes (thr d L) Ow W') := by
  rw [(K (F := F)).scopedBufs_V facts d (cV L) (jV L), SparseCore.Cfg.scopedSems0_V (Val := Elt F) d (cV L) (jV L), sems_eq, bufs_eq]
  have hw := fun Q => wp_task d L X G O (sumBuf d L X G) Ow W (sum_block d L X G) Q
  rw [holds_first, holds_last] at hw
  unfold ow at hw
  unfold hand
  iintro ⟨#Hlv, -, ⟨Ht, Ho, Hp⟩, ⟨⟨Htb, Hpb⟩, Hbr⟩, ⟨⟨Hi, Hos, Hps⟩, Hsr⟩, HO⟩
  ihave Hmw := ((K (F := F)).mayWaits_none (thr := thr d L) hO) $$ Hlv
  iapply (hw _)
  isplitl [Ht Ho Hp Htb Hpb Hi Hos Hps HO Hmw]
  · isplitl [Ht Ho]
    · isplitl [Ht] <;> iassumption
    isplitl [Htb Hi Hos]
    · isplitl [Htb]; · iexact Htb
      isplitl [Hi] <;> iassumption
    isplitl [Hp]; · iexact Hp
    isplitl [Hpb Hps]
    · isplitl [Hpb] <;> iassumption
    isplitl [Hmw]; · iexact Hmw
    iexists W; isplitr
    · ipureintro; exact fun p hp => .inl hp
    iexact HO
  iintro ⟨⟨Ht, Ho⟩, ⟨Htb, Hi, Hos⟩, Hp, ⟨Hpb, Hps⟩, ⟨-, HO⟩⟩
  isplitl [Ht Ho Hp]
  · isplitl [Ht]; · iexact Ht
    isplitl [Ho] <;> iassumption
  isplitl [Htb Hpb Hbr]
  · isplitl [Htb Hpb]
    · isplitl [Htb] <;> iassumption
    iexact Hbr
  isplitl [Hi Hos Hps Hsr]
  · isplitl [Hi Hos Hps]
    · isplitl [Hi]; · iexact Hi
      isplitl [Hos] <;> iassumption
    iexact Hsr
  iexact HO

end Cert.Proof
-- ==== Proof.Launch.lean ====
/-
  The launch: what each task is handed and hands back, the arrays of @main dealt out to the tasks and put together
  again, @main on the TensorCore (a reshape, the call, a reshape), and the whole program's run.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.ShloMosaic.StableHlo (held wp_hlo_within)
open Idealize.ShloMosaic.Tactic
open Idealize.ShloMosaic.Rounds
open Idealize.SL.BI.BIBase Idealize.SL.BI.Laws Idealize.SL.ProofMode Idealize.SL.Sem

variable {F : FTy → Type} [FloatOps F]

local notation "𝕄" => MT nD τ sig (HIx 1) (Elt F) ℕ UU ℕ

/-! ## @main's arrays and what they hold -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev y' : DevRef τ sig := Proc.devRef .tc (main_v1 : Ref sig .tc)
abbrev z' : DevRef τ sig := Proc.devRef .tc (main_v2 : Ref sig .tc)

abbrev opIn : HloOp τ sig (Elt F) := StableHlo.reshape main_arg0 main_v0 (rfl : (.f32 : EltTy) = .f32) shapeCasts_S4x4096x1024_S16384x1024
abbrev opOut : HloOp τ sig (Elt F) := StableHlo.reshape main_v1 main_v2 (rfl : (.f32 : EltTy) = .f32) shapeCasts_S16384x1024_S4x4096x1024

/-- The TensorCore's arrays. -/
abbrev S5 : Finset (DevRef τ sig) := {a0', a1', x', y', z'}

variable (m : (ℓ : Loc nD τ sig) → Buf (Elt F) ℓ) (ρ : Dev nD → PrngReg)

/-- What they hold at launch, after the first reshape, after the call, at the end. -/
def V0 (d : Dev nD) : Valuation τ sig (Elt F) := fun b => m (d, b)
def V1 (d : Dev nD) : Valuation τ sig (Elt F) := (opIn (F := F)).result (V0 m d)
def V2 (d : Dev nD) : Valuation τ sig (Elt F) :=
  Function.update (V1 m d) y' (sumOf (F := F) (V1 m d x') (V1 m d a1') : S16384x1024.Idx → Elt F .f32)
def V3 (d : Dev nD) : Valuation τ sig (Elt F) := (opOut (F := F)).result (V2 m d)

theorem held_S5 (d : Dev nD) (W : Valuation τ sig (Elt F)) :
    (held (T d) S5 W : sProp 𝕄) = iprop((((d, a0') : Loc nD τ sig) ↦{fullShare} W a0') ∗ (((d, a1') : Loc nD τ sig) ↦{fullShare} W a1')
      ∗ (((d, x') : Loc nD τ sig) ↦{fullShare} W x') ∗ (((d, y') : Loc nD τ sig) ↦{fullShare} W y') ∗ ((d, z') : Loc nD τ sig) ↦{fullShare} W z') := by
  unfold held S5
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-! ## Dealing the arrays out -/

/-- An array of sixteen thousand rows is the tasks' blocks of it. -/
theorem deal_rows (b : DevRef τ sig) (d : Dev nD) (hb : Idx ((d, b) : Loc nD τ sig) = S16384x1024.Idx)
    (Φ : grid0.Coords → Fin 32 → sProp 𝕄) (f : Buf (Elt F) ((d, b) : Loc nD τ sig))
    (blocks : Fin 2 × Fin 16 × Fin 32 → Finset (Idx ((d, b) : Loc nD τ sig)))
    (hd : ∀ t ∈ (Finset.univ : Finset (Fin 2 × Fin 16 × Fin 32)), ∀ t' ∈ (Finset.univ : Finset (Fin 2 × Fin 16 × Fin 32)),
      t ≠ t' → Disjoint (blocks t) (blocks t'))
    (hc : (Finset.univ : Finset (Fin 2 × Fin 16 × Fin 32)).biUnion blocks = Finset.univ)
    (hΦ : ∀ c i k, (((d, b) : Loc nD τ sig) ↦[blocks (c, i, k)]{fullShare} f) = Φ (pt c i) k) :
    (((d, b) : Loc nD τ sig) ↦{fullShare} f : sProp 𝕄)
      = bigSep Finset.univ fun c : Fin 2 => bigSep Finset.univ fun i : Fin 16 => bigSep Finset.univ fun k : Fin 32 => Φ (pt c i) k := by
  rw [← hc, pointsTo_biUnion Finset.univ (ℓ := ((d, b) : Loc nD τ sig)) blocks hd, bigSep_univ_prod]
  refine bigSep_congr fun c _ => ?_
  rw [bigSep_univ_prod]
  exact bigSep_congr fun i _ => bigSep_congr fun k _ => hΦ c i k

theorem deal_tok (d : Dev nD) (f : Buf (Elt F) ((d, x') : Loc nD τ sig)) :
    (((d, x') : Loc nD τ sig) ↦{fullShare} f : sProp 𝕄)
      = bigSep Finset.univ fun c : Fin 2 => bigSep Finset.univ fun i : Fin 16 => bigSep Finset.univ fun k : Fin 32 => tokB d (pt c i) f k :=
  deal_rows x' d rfl (fun L k => tokB d L f k) f blockSet blocks_disjoint blocks_cover
    (fun c i k => by unfold tokB blockSet; rw [tokM_set])

theorem deal_out (d : Dev nD) (f : Buf (Elt F) ((d, y') : Loc nD τ sig)) :
    (((d, y') : Loc nD τ sig) ↦{fullShare} f : sProp 𝕄)
      = bigSep Finset.univ fun c : Fin 2 => bigSep Finset.univ fun i : Fin 16 => bigSep Finset.univ fun k : Fin 32 => outB d (pt c i) f k :=
  deal_rows y' d rfl (fun L k => outB d L f k) f blockSet blocks_disjoint blocks_cover
    (fun c i k => by unfold outB blockSet; rw [outM_set])

/-- The position table is the tasks' pieces of it and the part no task reads. -/
theorem deal_pe (d : Dev nD) (f : Buf (Elt F) ((d, a1') : Loc nD τ sig)) :
    (((d, a1') : Loc nD τ sig) ↦{fullShare} f : sProp 𝕄)
      = iprop((bigSep Finset.univ fun c : Fin 2 => bigSep Finset.univ fun i : Fin 16 => bigSep Finset.univ fun q : Fin 8 => peB d (pt c i) f q)
          ∗ (((d, a1') : Loc nD τ sig) ↦[Finset.univ \ usedSet]{fullShare} f)) := by
  have h := pointsTo_split_subset (Name := ℕ) (U := UU) (Lvl := ℕ) (Ix := HIx 1) (Val := Elt F) (ℓ := ((d, a1') : Loc nD τ sig))
    (q := fullShare) (f := f) (Finset.subset_univ usedSet)
  refine (BI.equiv_iff.mp ⟨h.1, h.2⟩).trans (congrArg (fun A : sProp 𝕄 => iprop(A ∗ (((d, a1') : Loc nD τ sig) ↦[Finset.univ \ usedSet]{fullShare} f))) ?_)
  unfold usedSet
  rw [pointsTo_biUnion Finset.univ (ℓ := ((d, a1') : Loc nD τ sig)) pieceSet pieces_disjoint, bigSep_univ_prod]
  refine bigSep_congr fun c _ => ?_
  rw [bigSep_univ_prod]
  exact bigSep_congr fun i _ => bigSep_congr fun q _ => by unfold peB pieceSet; rw [peM_set]

/-- What the task of subcore `i` of SparseCore `c` is handed when the arrays hold `W`. -/
def handAt (d : Dev nD) (W : Valuation τ sig (Elt F)) (c : Fin 2) (i : Fin 16) : sProp 𝕄 := hand d (pt c i) (W x') (W a1') (W y')

/-- What stays with the TensorCore meanwhile. -/
abbrev keep (d : Dev nD) (W : Valuation τ sig (Elt F)) : sProp 𝕄 :=
  iprop((((d, a0') : Loc nD τ sig) ↦{fullShare} W a0') ∗ (((d, a1') : Loc nD τ sig) ↦[Finset.univ \ usedSet]{fullShare} W a1')
    ∗ ((d, z') : Loc nD τ sig) ↦{fullShare} W z')

theorem reorder {A B C D E G : sProp 𝕄} : iprop(A ∗ (B ∗ C) ∗ D ∗ E ∗ G) = iprop((D ∗ E ∗ B) ∗ A ∗ C ∗ G) := by
  have h₁ : iprop(A ∗ (B ∗ C) ∗ D ∗ E ∗ G) ⊢ iprop((D ∗ E ∗ B) ∗ A ∗ C ∗ G) := by
    iintro ⟨HA, ⟨HB, HC⟩, HD, HE, HG⟩
    isplitl [HB HD HE]
    · isplitl [HD]; · iexact HD
      isplitl [HE] <;> iassumption
    isplitl [HA]; · iexact HA
    isplitl [HC] <;> iassumption
  have h₂ : iprop((D ∗ E ∗ B) ∗ A ∗ C ∗ G) ⊢ iprop(A ∗ (B ∗ C) ∗ D ∗ E ∗ G) := by
    iintro ⟨⟨HD, HE, HB⟩, HA, HC, HG⟩
    isplitl [HA]; · iexact HA
    isplitl [HB HC]
    · isplitl [HB] <;> iassumption
    isplitl [HD]; · iexact HD
    isplitl [HE] <;> iassumption
  exact BI.Entails.antisymm h₁ h₂

theorem deal (d : Dev nD) (W : Valuation τ sig (Elt F)) :
    (held (T d) S5 W : sProp 𝕄)
      = iprop((bigSep Finset.univ fun c : Fin 2 => bigSep Finset.univ fun i : Fin 16 => handAt d W c i) ∗ keep d W) := by
  rw [held_S5, deal_tok, deal_out, deal_pe]
  unfold handAt hand keep
  simp only [bigSep_sep']
  exact reorder

theorem keep_V2 (d : Dev nD) : (keep d (V2 m d) : sProp 𝕄) = keep d (V1 m d) := by
  unfold keep V2
  rw [Function.update_of_ne (show a0' ≠ y' by decide), Function.update_of_ne (show a1' ≠ y' by decide), Function.update_of_ne (show z' ≠ y' by decide)]

/-- A task that finds the arrays at `V1` leaves them at `V2`. -/
theorem hand_V2 (d : Dev nD) (c : Fin 2) (i : Fin 16) :
    (handAt d (V2 m d) c i : sProp 𝕄)
      = hand d (pt c i) (V1 m d x') (V1 m d a1') (sumBuf d (pt c i) (V1 m d x') (V1 m d a1')) := by
  unfold handAt V2
  rw [Function.update_of_ne (show x' ≠ y' by decide), Function.update_of_ne (show a1' ≠ y' by decide), Function.update_self]

/-! ## What the call hands over -/

theorem nCore_zero : (K (F := F)).nCore 0 = 2 := rfl
theorem nSub_zero : (K (F := F)).nSub 0 = 16 := rfl

abbrev handC (d : Dev nD) (W : Valuation τ sig (Elt F)) (c : Fin ((K (F := F)).nCore 0)) (i : Fin ((K (F := F)).nSub 0)) : sProp 𝕄 :=
  handAt d W (Fin.cast nCore_zero c) (Fin.cast nSub_zero i)

/-- SparseCore `c`'s sequencer is handed what its tasks are handed, and hands back what they hand back. -/
def P : (K (F := F)).Pay (nD := nD) (Val := Elt F) (Name := ℕ) (U := UU) where
  st := fun q d c => match q with | 0 => bigSep Finset.univ fun i : Fin ((K (F := F)).nSub 0) => handC d (V1 m d) c i
  dn := fun q d c => match q with | 0 => bigSep Finset.univ fun i : Fin ((K (F := F)).nSub 0) => handC d (V2 m d) c i
  go := fun q d c i => match q with | 0 => handC d (V1 m d) c i
  td := fun q d c i => match q with | 0 => handC d (V2 m d) c i
  x := fun _ _ => iprop(emp)

instance handAt_storable (d : Dev nD) (W : Valuation τ sig (Elt F)) (c : Fin 2) (i : Fin 16) : BI.Storable (upEmb : UEmb _ 𝕄) (handAt d W c i) := by
  unfold handAt hand tokB outB peB; infer_instance

theorem st_eq (d : Dev nD) (c : Fin ((K (F := F)).nCore 0)) :
    (P m).st 0 d c = bigSep Finset.univ fun i : Fin ((K (F := F)).nSub 0) => handC d (V1 m d) c i := by
  unfold P; with_reducible rfl
theorem dn_eq (d : Dev nD) (c : Fin ((K (F := F)).nCore 0)) :
    (P m).dn 0 d c = bigSep Finset.univ fun i : Fin ((K (F := F)).nSub 0) => handC d (V2 m d) c i := by
  unfold P; with_reducible rfl
theorem go_eq (d : Dev nD) (c : Fin ((K (F := F)).nCore 0)) (i : Fin ((K (F := F)).nSub 0)) : (P m).go 0 d c i = handC d (V1 m d) c i := by
  unfold P; with_reducible rfl
theorem td_eq (d : Dev nD) (c : Fin ((K (F := F)).nCore 0)) (i : Fin ((K (F := F)).nSub 0)) : (P m).td 0 d c i = handC d (V2 m d) c i := by
  unfold P; with_reducible rfl

instance P_storable : (P (F := F) m).IsStorable where
  st q d c := match q with
    | 0 => by rw [st_eq]; infer_instance
  dn q d c := match q with
    | 0 => by rw [dn_eq]; infer_instance
  go q d c i := match q with
    | 0 => by rw [go_eq]; infer_instance
  td q d c i := match q with
    | 0 => by rw [td_eq]; infer_instance

theorem vecSplit : (K (F := F)).VecSplit' (P m) 0 := by
  intro d c
  rw [st_eq, dn_eq]
  simp only [go_eq, td_eq]
  iintro H; imodintro
  isplitl [H]; · iexact H
  iintro H; iexact H

theorem handC_all (d : Dev nD) (W : Valuation τ sig (Elt F)) :
    (bigSep Finset.univ fun c : Fin ((K (F := F)).nCore 0) => bigSep Finset.univ fun i : Fin ((K (F := F)).nSub 0) => handC d W c i)
      = bigSep Finset.univ fun c : Fin 2 => bigSep Finset.univ fun i : Fin 16 => handAt d W c i :=
  bigSep_congr (Φ := fun c : Fin 2 => bigSep Finset.univ fun i : Fin 16 => handAt d W (Fin.cast nCore_zero c) (Fin.cast nSub_zero i))
    (Ψ := fun c : Fin 2 => bigSep Finset.univ fun i : Fin 16 => handAt d W c i)
    fun c _ => bigSep_congr fun i _ => congrArg₂ (handAt d W) (Fin.ext rfl) (Fin.ext rfl)

/-! ## The tasks -/

theorem defs₀_vector (c : Fin τ.nSC) (s : Fin τ.nSub) :
    defs₀ (F := F) (.scVector c s) 0 () = SparseCore.onTile hcore0 hsub0 (fun c s => at' (pt c s) (cc0_sc_add (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body d (pt (Fin.cast nCore_zero c) (Fin.cast nSub_zero i)) (V1 m d x') (V1 m d a1') (V1 m d y') O W hO
  rw [← hand_V2] at h
  exact h.trans (wp_mono frame _ _ fun _ => obl_post)

/-! ## The launch element: the handshakes' rounds -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  have e {I : Type} (s : Finset I) : (bigSep s fun _ => iprop(emp)) = (iprop(emp) : sProp 𝕄) := bigSep_emp_const s
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## @main on the TensorCore -/

theorem hIn : (opIn (F := F)).bufs ⊆ S5 := show ({a0', x'} : Finset (DevRef τ sig)) ⊆ S5 by decide
theorem hOut : (opOut (F := F)).bufs ⊆ S5 := show ({y', z'} : Finset (DevRef τ sig)) ⊆ S5 by decide

theorem st0_eq (d : Dev nD) : (bigSep Finset.univ fun c : Fin ((K (F := F)).nCore 0) => (P m).st 0 d c)
    = bigSep Finset.univ fun c : Fin 2 => bigSep Finset.univ fun i : Fin 16 => handAt d (V1 m d) c i := by
  simp only [st_eq]; exact handC_all d (V1 m d)
theorem dn0_eq (d : Dev nD) : (bigSep Finset.univ fun c : Fin ((K (F := F)).nCore 0) => (P m).dn 0 d c)
    = bigSep Finset.univ fun c : Fin 2 => bigSep Finset.univ fun i : Fin 16 => handAt d (V2 m d) c i := by
  simp only [dn_eq]; exact handC_all d (V2 m d)

/-- What @main ends with: every array, at its last contents. -/
abbrev FIN (d : Dev nD) : sProp 𝕄 := held (T d) S5 (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  ihave Hheld := (Entails.of_eq (show (held (T d) S5 ((opIn (F := F)).result (V0 m d)) : sProp 𝕄) = held (T d) S5 (V1 m d) from rfl)) $$ Hheld
  rw [wp_ret]; imodintro
  ihave Hh := (Entails.of_eq (deal (F := F) d (V1 m d))) $$ Hheld
  icases Hh with ⟨Hgo, Hkeep⟩
  iapply ((K (F := F)).wp_run (D (F := F)) 𝒱 (EH := EH) (P := P m) κ d 0) $$ [Hst Hgo Hkeep Hb Hts]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hkeep' := (Entails.of_eq (keep_V2 m d).symm) $$ Hkeep
  ihave Hheld := (Entails.of_eq (deal (F := F) d (V2 m d)).symm) $$ [Hdn' Hkeep']
  · isplitl [Hdn'] <;> iassumption
  iapply (wp_hlo_within 𝒱 (SparseCore.T d) none Set.univ (op := opOut) (S := S5) hOut (V := V2 m d)) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## The run -/

def fq (d : Dev nD) (s' : Phys nD τ sig (Elt F)) : Prop := ∀ b ∈ S5, s'.mem.mem (d, b) = V3 m d b

/-- An array held at contents is at them in memory. -/
theorem agree_mem (d : Dev nD) (b : DevRef τ sig) (f : Buf (Elt F) ((d, b) : Loc nD τ sig)) (s' : Phys nD τ sig (Elt F)) :
    iprop((((d, b) : Loc nD τ sig) ↦{fullShare} f) ∗ SI s') ⊢ (⌜s'.mem.mem (d, b) = f⌝ : sProp 𝕄) := by
  iintro ⟨Hx, HSI⟩
  ihave H := (SI_pointsTo_agree (st := s') (ℓ := ((d, b) : Loc nD τ sig)) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have one (b : S5) : iprop(FIN m d ∗ SI s') ⊢ (⌜s'.mem.mem (d, b.1) = V3 m d b.1⌝ : sProp 𝕄) := by
    unfold FIN held
    rw [SparseCore.bigSep_erase' b.2]
    iintro ⟨⟨Hb, -⟩, HSI⟩
    iapply (agree_mem d b.1 _ s')
    isplitl [Hb] <;> iassumption
  exact ((Laws.forall_intro one).trans Laws.pure_forall.2).trans (Laws.pure_mono fun all b hb => all ⟨b, hb⟩)

def QC : PUnit × MemSt nD τ sig (Elt F) → Prop := fun r => (∀ c : Dev nD, ∀ b ∈ S5, r.2.mem (c, b) = V3 m c b) ∧ r.2.sem = fun _ => 0

/-- Every run of the program ends with every array at its last contents and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Value.lean ====
/-
  What the kernel's run leaves: the arguments as they were and, in the result, each token plus the table's element for
  its row and column. The kernel works on the tokens flattened to 4 · 4096 rows, row 4096 · b + s for batch b, row s.
-/
module

public import proofs.«01_k».proof.Proof.Launch
public import proofs.«01_k».proof.Proof.Reference

@[expose] public section

noncomputable section

namespace Cert.Proof

open Cert.KernelIdeal Cert.KernelIdeal.Gen
open Idealize.ShloMosaic Idealize.SL.Sem

variable {F : FTy → Type} [FloatOps F]

variable (m : (ℓ : Loc nD τ sig) → Buf (Elt F) ℓ) (ρ : Dev nD → PrngReg)

/-- An array the first reshape does not write. -/
theorem V1_of_ne (d : Dev nD) {b : DevRef τ sig} (h : b ≠ x') : V1 m d b = m (d, b) :=
  (opIn (F := F)).result_of_not_mem _ (fun hb => h (Finset.mem_singleton.mp hb))

theorem V1_x (d : Dev nD) : V1 m d x' = shapeCast S16384x1024 (m (d, a0') : S4x4096x1024.Idx → Elt F .f32) shapeCasts_S4x4096x1024_S16384x1024 :=
  StableHlo.reshape_result main_arg0 main_v0 rfl shapeCasts_S4x4096x1024_S16384x1024 _ _ (V0 m d)

/-- An array neither reshape nor the kernel writes. -/
theorem V3_of_ne (d : Dev nD) {b : DevRef τ sig} (hx : b ≠ x') (hy : b ≠ y') (hz : b ≠ z') : V3 m d b = m (d, b) :=
  ((opOut (F := F)).result_of_not_mem _ (fun hb => hz (Finset.mem_singleton.mp hb))).trans
    ((Function.update_of_ne hy _ _).trans (V1_of_ne m d hx))

theorem V3_z (d : Dev nD) : V3 m d z' = shapeCast S4x4096x1024
    (sumOf (F := F) (shapeCast S16384x1024 (m (d, a0') : S4x4096x1024.Idx → Elt F .f32) shapeCasts_S4x4096x1024_S16384x1024)
      (m (d, a1') : S8192x1024.Idx → Elt F .f32)) shapeCasts_S16384x1024_S4x4096x1024 := by
  have h : V3 m d z' = shapeCast S4x4096x1024 (V2 m d y' : S16384x1024.Idx → Elt F .f32) shapeCasts_S16384x1024_S4x4096x1024 :=
    StableHlo.reshape_result main_v1 main_v2 rfl shapeCasts_S16384x1024_S4x4096x1024 _ _ (V2 m d)
  rw [h, show V2 m d y' = (sumOf (F := F) (V1 m d x') (V1 m d a1') : S16384x1024.Idx → Elt F .f32) from Function.update_self ..,
    V1_x, V1_of_ne m d (show a1' ≠ x' by decide)]

/-- The flattened row of a result index. -/
theorem flat_row (x : S4x4096x1024.Idx) :
    peIdx (Shape.reshapeEquiv shapeCasts_S16384x1024_S4x4096x1024 x) = Ref.rowIdx (Ref.posIdx x) := by
  have h1 : (x 1).val < 4096 := (x 1).isLt
  have h0 : (x 0).val < 4 := (x 0).isLt
  have hr : (x 0).val * 4096 + (x 1).val < 16384 := by omega
  let y : S16384x1024.Idx := fun a => match a with
    | ⟨0, _⟩ => ⟨(x 0).val * 4096 + (x 1).val, hr⟩
    | ⟨1, _⟩ => ⟨(x 2).val, (x 2).isLt⟩
  have e : Shape.reshapeEquiv shapeCasts_S16384x1024_S4x4096x1024 x = y := Shape.reshapeEquiv_eq_of_rowMajor _ (by
    rw [Shape.rowMajor_val_two, Shape.rowMajor_val_three]
    rfl)
  rw [e]
  funext a
  match a with
  | ⟨0, _⟩ => exact Fin.ext (show ((x 0).val * 4096 + (x 1).val) % 4096 = (x 1).val by omega)
  | ⟨1, _⟩ => rfl

/-- The result: the reference's, of the same arguments. -/
theorem V3_out (d : Dev nD) : V3 m d z' = Ref.out (F := F) (m (d, a0')) (m (d, a1')) := by
  rw [V3_z]
  funext x
  show FloatOps.addf (φ := .f32)
      ((m (d, a0') : S4x4096x1024.Idx → Elt F .f32) (Shape.reshapeEquiv shapeCasts_S4x4096x1024_S16384x1024 (Shape.reshapeEquiv shapeCasts_S16384x1024_S4x4096x1024 x)))
      ((m (d, a1') : S8192x1024.Idx → Elt F .f32) (peIdx (Shape.reshapeEquiv shapeCasts_S16384x1024_S4x4096x1024 x))) = _
  rw [flat_row, Shape.reshapeEquiv_eq_of_rowMajor shapeCasts_S4x4096x1024_S16384x1024 (Shape.rowMajor_reshapeEquiv shapeCasts_S16384x1024_S4x4096x1024 x).symm]
  rfl

/-- The kernel's run: its result, its arguments as they were, every semaphore counter at zero. -/
theorem run_value [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_v2) = Ref.out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h.1 c z' (by decide)).trans (V3_out m c),
      (h.1 c a0' (by decide)).trans (V3_of_ne m c (by decide) (by decide) (by decide)),
      (h.1 c a1' (by decide)).trans (V3_of_ne m c (by decide) (by decide) (by decide))⟩, h.2⟩)
    (run_main m ρ)

end Cert.Proof

end
-- ==== Proof.lean ====
/-
  The certificate's claims. The kernel's run, at any float values, is `run_value`; read at machine words and at ideal
  values it gives the kernel's two frames, and at ideal values its result, which is the reference's (`Ref.run_main`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2, h.2⟩) (run_value (F := Bits) m ρ)

theorem frame_ideal : Cert.quiescent_KernelIdeal := fun m ρ _ =>
  (θ_run Cert.KernelIdeal.defs _ _).mono (fun _ h => ⟨fun c => (h.1 c).2, h.2⟩) (run_value (F := Ideal) m ρ)

theorem frame_reference : Cert.quiescent_ReferenceIdeal := fun m ρ _ =>
  (θ_run Cert.ReferenceIdeal.defs _ _).mono (fun _ h => ⟨fun c => (h.1 c).2, h.2⟩) (Ref.run_main (F := Ideal) m ρ)

theorem algebraic : Cert.algebraic_KernelIdeal_ReferenceIdeal := fun m g m' g' _ hargs =>
  ⟨fun c => Ref.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h => h.1) (run_value (F := Ideal) m g),
    (θ_run Cert.ReferenceIdeal.defs _ _).mono
      (fun _ h c => ⟨(h.1 c).1.trans (congrArg₂ (Ref.out (F := Ideal)) (hargs c).1 (hargs c).2), (h.1 c).2⟩)
      (Ref.run_main (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
